-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_and_ids_in_range [hPre_scores_and_ids_in_range : Cert.Pre_scores_and_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scores_and_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_and_ids_in_range [hPre_scores_and_ids_in_range : Cert.Pre_scores_and_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_and_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_scores_and_ids_in_range [hKernelIdeal : Cert.KernelIdeal.Facts] [hPre_scores_and_ids_in_range : Cert.Pre_scores_and_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_and_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_scores_and_ids_in_range [hReferenceIdeal : Cert.ReferenceIdeal.Facts] [hPre_scores_and_ids_in_range : Cert.Pre_scores_and_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_and_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_k" .f32 0x3D4CCCCD#32 ((1 / 20 : ℝ) : EReal)

def algebraic_KernelIdeal_ReferenceIdeal_pre_scores_and_ids_in_range [hKernelIdeal : Cert.KernelIdeal.Facts] [hReferenceIdeal : Cert.ReferenceIdeal.Facts] [hPre_scores_and_ids_in_range : Cert.Pre_scores_and_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_and_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_scores_and_ids_in_range : Cert.Pre_scores_and_ids_in_range.Facts),
    quiescent_Kernel (hKernel := hKernel)
    ∧ quiescent_KernelIdeal (hKernelIdeal := hKernelIdeal)
    ∧ quiescent_KernelIdeal_pre_scores_and_ids_in_range (hKernelIdeal := hKernelIdeal) (hPre_scores_and_ids_in_range := hPre_scores_and_ids_in_range)
    ∧ quiescent_ReferenceIdeal (hReferenceIdeal := hReferenceIdeal)
    ∧ quiescent_ReferenceIdeal_pre_scores_and_ids_in_range (hReferenceIdeal := hReferenceIdeal) (hPre_scores_and_ids_in_range := hPre_scores_and_ids_in_range)
    ∧ preserves_Kernel_KernelIdeal
    ∧ algebraic_KernelIdeal_ReferenceIdeal_pre_scores_and_ids_in_range (hKernelIdeal := hKernelIdeal) (hReferenceIdeal := hReferenceIdeal) (hPre_scores_and_ids_in_range := hPre_scores_and_ids_in_range)
-- ==== Pre_scores_and_ids_in_range.lean ====
abbrev S1024x8x128 : Shape := ⟨3, ![1024, 8, 128]⟩
abbrev S1024x256 : Shape := ⟨2, ![1024, 256]⟩
abbrev S1024x200x128 : Shape := ⟨3, ![1024, 200, 128]⟩
abbrev S1024x200 : Shape := ⟨2, ![1024, 200]⟩
abbrev S1024x1 : Shape := ⟨2, ![1024, 1]⟩
abbrev S256x128 : Shape := ⟨2, ![256, 128]⟩
abbrev S256 : Shape := ⟨1, ![256]⟩
abbrev S1x512 : Shape := ⟨2, ![1, 512]⟩
abbrev S1 : Shape := ⟨1, ![1]⟩
abbrev S_ : Shape := ⟨0, ![]⟩
abbrev S1024 : Shape := ⟨1, ![1024]⟩

class Facts : Prop where
  reducesTo_S1024x200_S1024_d1 : S1024x200.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)

variable [Facts]

def fn {F : FTy → Type} [FloatOps F] (main_arg0 : FVec F S1024x8x128 .f32) (main_arg1 : FVec F S1024x256 .f32) (main_arg2 : FVec F S1024x200x128 .f32) (main_arg3 : FVec F S1024x200 .f32) (main_arg4 : FVec F S1024x200 .f32) (main_arg5 : IVec S1024x1 32) (main_arg6 : IVec S1024x1 32) (main_arg7 : FVec F S256x128 .f32) (main_arg8 : FVec F S256 .f32) (main_arg9 : FVec F S1x512 .f32) (main_arg10 : FVec F S1 .f32) : IVec S1024x1 1 :=
  let main_cst : FVec F S_ .f32 := constant S_ .f32 0xFF800000#32
  let main_v0 : FVec F S1024 .f32 := (fun x v => Host.reduce FloatOps.maximumf x v reducesTo_S1024x200_S1024_d1 h_S_) main_arg4 main_cst
  let main_v1 : FVec F S1024x1 .f32 := broadcastInDim S1024x1 ![0] bcast_S1024_S1024x1_0 main_v0
  let main_cst_0 : FVec F S_ .f32 := constant S_ .f32 0xFF800000#32
  let main_v2 : FVec F S1024x1 .f32 := broadcastInDim S1024x1 ![] bcast_S_S1024x1 main_cst_0
  let main_v3 : IVec S1024x1 1 := cmpf .ogt main_v1 main_v2
  let main_cst_1 : FVec F S_ .f32 := constant S_ .f32 0x7F800000#32
  let main_v4 : FVec F S1024x1 .f32 := broadcastInDim S1024x1 ![] bcast_S_S1024x1 main_cst_1
  let main_v5 : IVec S1024x1 1 := cmpf .olt main_v1 main_v4
  let main_v6 : IVec S1024x1 1 := andi main_v3 main_v5
  let main_c : IVec S_ 32 := constantI S_ 32 2147483448#32
  let main_v7 : IVec S1024x1 32 := broadcastInDim S1024x1 ![] bcast_S_S1024x1 main_c
  let main_v8 : IVec S1024x1 1 := cmpi .sle main_arg6 main_v7
  let main_v9 : IVec S1024x1 1 := andi main_v6 main_v8
  main_v9
-- ==== Kernel.lean ====
abbrev S1024x8x128 : Shape := ⟨3, ![1024, 8, 128]⟩
abbrev S1024x256 : Shape := ⟨2, ![1024, 256]⟩
abbrev S1024x200x128 : Shape := ⟨3, ![1024, 200, 128]⟩
abbrev S1024x200 : Shape := ⟨2, ![1024, 200]⟩
abbrev S1024x1 : Shape := ⟨2, ![1024, 1]⟩
abbrev S256x128 : Shape := ⟨2, ![256, 128]⟩
abbrev S256 : Shape := ⟨1, ![256]⟩
abbrev S1x512 : Shape := ⟨2, ![1, 512]⟩
abbrev S1 : Shape := ⟨1, ![1]⟩
abbrev S1x256 : Shape := ⟨2, ![1, 256]⟩
abbrev S1x1 : Shape := ⟨2, ![1, 1]⟩
abbrev S1024x20 : Shape := ⟨2, ![1024, 20]⟩
abbrev S128x200x128 : Shape := ⟨3, ![128, 200, 128]⟩
abbrev S128x256 : Shape := ⟨2, ![128, 256]⟩
abbrev S128x200 : Shape := ⟨2, ![128, 200]⟩
abbrev S128x1 : Shape := ⟨2, ![128, 1]⟩
abbrev S128x20 : Shape := ⟨2, ![128, 20]⟩
abbrev S2x128x200 : Shape := ⟨3, ![2, 128, 200]⟩
abbrev S1x128x200 : Shape := ⟨3, ![1, 128, 200]⟩
abbrev S128 : Shape := ⟨1, ![128]⟩
abbrev S128x20x1 : Shape := ⟨3, ![128, 20, 1]⟩
abbrev S128x1x20 : Shape := ⟨3, ![128, 1, 20]⟩
abbrev S128x20x20 : Shape := ⟨3, ![128, 20, 20]⟩
abbrev S25600x128 : Shape := ⟨2, ![25600, 128]⟩
abbrev S8x256 : Shape := ⟨2, ![8, 256]⟩
abbrev S256x1 : Shape := ⟨2, ![256, 1]⟩
abbrev S6400x128 : Shape := ⟨2, ![6400, 128]⟩
abbrev S256x6400 : Shape := ⟨2, ![256, 6400]⟩
abbrev S8x6400 : Shape := ⟨2, ![8, 6400]⟩
abbrev S1x6400 : Shape := ⟨2, ![1, 6400]⟩
abbrev S1x200 : Shape := ⟨2, ![1, 200]⟩
abbrev S128x8 : Shape := ⟨2, ![128, 8]⟩

abbrev nBuf : Space → Nat
  | .hbm => 15
  | .vmem => 19
  | .smem => 0
  | _ => 0

abbrev bufTy : (tb : Table) → Fin (tcTables nBuf tb) → BufTy
  | .hbm, ⟨0, _⟩ => ⟨S1024x8x128, .f32⟩
  | .hbm, ⟨1, _⟩ => ⟨S1024x256, .f32⟩
  | .hbm, ⟨2, _⟩ => ⟨S1024x200x128, .f32⟩
  | .hbm, ⟨3, _⟩ => ⟨S1024x200, .f32⟩
  | .hbm, ⟨4, _⟩ => ⟨S1024x200, .f32⟩
  | .hbm, ⟨5, _⟩ => ⟨S1024x1, .i32⟩
  | .hbm, ⟨6, _⟩ => ⟨S1024x1, .i32⟩
  | .hbm, ⟨7, _⟩ => ⟨S256x128, .f32⟩
  | .hbm, ⟨8, _⟩ => ⟨S256, .f32⟩
  | .hbm, ⟨9, _⟩ => ⟨S1x512, .f32⟩
  | .hbm, ⟨10, _⟩ => ⟨S1, .f32⟩
  | .hbm, ⟨11, _⟩ => ⟨S1x256, .f32⟩
  | .hbm, ⟨12, _⟩ => ⟨S1x1, .f32⟩
  | .hbm, ⟨13, _⟩ => ⟨S1024x20, .i32⟩
  | .hbm, ⟨14, _⟩ => ⟨S1024x1, .f32⟩
  | .local _ .vmem, ⟨0, _⟩ => ⟨S128x200x128, .f32⟩
  | .local _ .vmem, ⟨1, _⟩ => ⟨S128x200x128, .f32⟩
  | .local _ .vmem, ⟨2, _⟩ => ⟨S128x256, .f32⟩
  | .local _ .vmem, ⟨3, _⟩ => ⟨S128x256, .f32⟩
  | .local _ .vmem, ⟨4, _⟩ => ⟨S128x200, .f32⟩
  | .local _ .vmem, ⟨5, _⟩ => ⟨S128x200, .f32⟩
  | .local _ .vmem, ⟨6, _⟩ => ⟨S128x1, .i32⟩
  | .local _ .vmem, ⟨7, _⟩ => ⟨S128x1, .i32⟩
  | .local _ .vmem, ⟨8, _⟩ => ⟨S128x1, .i32⟩
  | .local _ .vmem, ⟨9, _⟩ => ⟨S128x1, .i32⟩
  | .local _ .vmem, ⟨10, _⟩ => ⟨S256x128, .f32⟩
  | .local _ .vmem, ⟨11, _⟩ => ⟨S1x256, .f32⟩
  | .local _ .vmem, ⟨12, _⟩ => ⟨S1x512, .f32⟩
  | .local _ .vmem, ⟨13, _⟩ => ⟨S1x1, .f32⟩
  | .local _ .vmem, ⟨14, _⟩ => ⟨S128x20, .i32⟩
  | .local _ .vmem, ⟨15, _⟩ => ⟨S128x20, .i32⟩
  | .local _ .vmem, ⟨16, _⟩ => ⟨S128x1, .f32⟩
  | .local _ .vmem, ⟨17, _⟩ => ⟨S128x1, .f32⟩
  | .local _ .vmem, ⟨18, _⟩ => ⟨S2x128x200, .f32⟩
  | _, _ => ⟨S1024x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![9], ![false]⟩

def k0_off1 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2 : Index := Scalar.indexCast v1
  let c0 : Index := 0#32
  let c0_0 : Index := 0#32
  ![v2.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v486 : Index := Scalar.indexCast v0
  let c0_117 : Index := 0#32
  let c0_118 : Index := 0#32
  ![v486.toNat, 0, 0]
def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x20 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_k" => some ((1 / 20 : ℝ) : EReal)
  | _ => none
-- ==== ReferenceIdeal.lean ====
abbrev S1024x8x128 : Shape := ⟨3, ![1024, 8, 128]⟩
abbrev S1024x256 : Shape := ⟨2, ![1024, 256]⟩
abbrev S1024x200x128 : Shape := ⟨3, ![1024, 200, 128]⟩
abbrev S1024x200 : Shape := ⟨2, ![1024, 200]⟩
abbrev S1024x1 : Shape := ⟨2, ![1024, 1]⟩
abbrev S256x128 : Shape := ⟨2, ![256, 128]⟩
abbrev S256 : Shape := ⟨1, ![256]⟩
abbrev S1x512 : Shape := ⟨2, ![1, 512]⟩
abbrev S1 : Shape := ⟨1, ![1]⟩
abbrev S128x256 : Shape := ⟨2, ![128, 256]⟩
abbrev S1024x200x256 : Shape := ⟨3, ![1024, 200, 256]⟩
abbrev S1x1x256 : Shape := ⟨3, ![1, 1, 256]⟩
abbrev S1024x1x256 : Shape := ⟨3, ![1024, 1, 256]⟩
abbrev S1024x200x512 : Shape := ⟨3, ![1024, 200, 512]⟩
abbrev S512x1 : Shape := ⟨2, ![512, 1]⟩
abbrev S1024x200x1 : Shape := ⟨3, ![1024, 200, 1]⟩
abbrev S1x1x1 : Shape := ⟨3, ![1, 1, 1]⟩
abbrev S_ : Shape := ⟨0, ![]⟩
abbrev S1024 : Shape := ⟨1, ![1024]⟩
abbrev S1024x20 : Shape := ⟨2, ![1024, 20]⟩
abbrev S1024x20x1 : Shape := ⟨3, ![1024, 20, 1]⟩

abbrev nBuf : Space → Nat
  | .hbm => 88
  | .vmem => 0
  | .smem => 0
  | _ => 0

abbrev bufTy : (tb : Table) → Fin (tcTables nBuf tb) → BufTy
  | .hbm, ⟨0, _⟩ => ⟨S1024x8x128, .f32⟩
  | .hbm, ⟨1, _⟩ => ⟨S1024x256, .f32⟩
  | .hbm, ⟨2, _⟩ => ⟨S1024x200x128, .f32⟩
  | .hbm, ⟨3, _⟩ => ⟨S1024x200, .f32⟩
  | .hbm, ⟨4, _⟩ => ⟨S1024x200, .f32⟩
  | .hbm, ⟨5, _⟩ => ⟨S1024x1, .i32⟩
  | .hbm, ⟨6, _⟩ => ⟨S1024x1, .i32⟩
  | .hbm, ⟨7, _⟩ => ⟨S256x128, .f32⟩
  | .hbm, ⟨8, _⟩ => ⟨S256, .f32⟩
  | .hbm, ⟨9, _⟩ => ⟨S1x512, .f32⟩
  | .hbm, ⟨10, _⟩ => ⟨S1, .f32⟩
  | .hbm, ⟨11, _⟩ => ⟨S128x256, .f32⟩
  | .hbm, ⟨12, _⟩ => ⟨S1024x200x256, .f32⟩
  | .hbm, ⟨13, _⟩ => ⟨S1x1x256, .f32⟩
  | .hbm, ⟨14, _⟩ => ⟨S1024x200x256, .f32⟩
  | .hbm, ⟨15, _⟩ => ⟨S1024x200x256, .f32⟩
  | .hbm, ⟨16, _⟩ => ⟨S1024x1x256, .f32⟩
  | .hbm, ⟨17, _⟩ => ⟨S1024x200x256, .f32⟩
  | .hbm, ⟨18, _⟩ => ⟨S1024x200x512, .f32⟩
  | .hbm, ⟨19, _⟩ => ⟨S512x1, .f32⟩
  | .hbm, ⟨20, _⟩ => ⟨S1024x200x1, .f32⟩
  | .hbm, ⟨21, _⟩ => ⟨S1x1x1, .f32⟩
  | .hbm, ⟨22, _⟩ => ⟨S1024x200x1, .f32⟩
  | .hbm, ⟨23, _⟩ => ⟨S1024x200x1, .f32⟩
  | .hbm, ⟨24, _⟩ => ⟨S1024x200x1, .f32⟩
  | .hbm, ⟨25, _⟩ => ⟨S1024x200x1, .f32⟩
  | .hbm, ⟨26, _⟩ => ⟨S_, .f32⟩
  | .hbm, ⟨27, _⟩ => ⟨S1024x200x1, .f32⟩
  | .hbm, ⟨28, _⟩ => ⟨S1024x200x1, .f32⟩
  | .hbm, ⟨29, _⟩ => ⟨S_, .f32⟩
  | .hbm, ⟨30, _⟩ => ⟨S1024x200x1, .f32⟩
  | .hbm, ⟨31, _⟩ => ⟨S1024x200x1, .f32⟩
  | .hbm, ⟨32, _⟩ => ⟨S_, .f32⟩
  | .hbm, ⟨33, _⟩ => ⟨S1024x200, .f32⟩
  | .hbm, ⟨34, _⟩ => ⟨S1024x200, .f32⟩
  | .hbm, ⟨35, _⟩ => ⟨S_, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024x1, .f32⟩
  | .hbm, ⟨41, _⟩ => ⟨S1024x200, .f32⟩
  | .hbm, ⟨42, _⟩ => ⟨S1024x200, .f32⟩
  | .hbm, ⟨43, _⟩ => ⟨S1024x200, .f32⟩
  | .hbm, ⟨44, _⟩ => ⟨S_, .f32⟩
  | .hbm, ⟨45, _⟩ => ⟨S1024, .f32⟩
  | .hbm, ⟨46, _⟩ => ⟨S1024x1, .f32⟩
  | .hbm, ⟨47, _⟩ => ⟨S1024x200, .f32⟩
  | .hbm, ⟨48, _⟩ => ⟨S1024x200, .f32⟩
  | .hbm, ⟨49, _⟩ => ⟨S1024x20, .f32⟩
  | .hbm, ⟨50, _⟩ => ⟨S1024x20, .i32⟩
  | .hbm, ⟨51, _⟩ => ⟨S1024x20, .i32⟩
  | .hbm, ⟨52, _⟩ => ⟨S_, .i32⟩
  | .hbm, ⟨53, _⟩ => ⟨S1024x20, .i32⟩
  | .hbm, ⟨54, _⟩ => ⟨S1024x20, .i1⟩
  | .hbm, ⟨55, _⟩ => ⟨S_, .i32⟩
  | .hbm, ⟨56, _⟩ => ⟨S1024x20, .i32⟩
  | .hbm, ⟨57, _⟩ => ⟨S1024x20, .i32⟩
  | .hbm, ⟨58, _⟩ => ⟨S1024x20, .i32⟩
  | .hbm, ⟨59, _⟩ => ⟨S1024x20x1, .i32⟩
  | .hbm, ⟨60, _⟩ => ⟨S1, .i32⟩
  | .hbm, ⟨61, _⟩ => ⟨S_, .i32⟩
  | .hbm, ⟨62, _⟩ => ⟨S1024x20x1, .i32⟩
  | .hbm, ⟨63, _⟩ => ⟨S1024x20x1, .i1⟩
  | .hbm, ⟨64, _⟩ => ⟨S1x1x1, .i32⟩
  | .hbm, ⟨65, _⟩ => ⟨S1024x20x1, .i32⟩
  | .hbm, ⟨66, _⟩ => ⟨S1024x20x1, .i1⟩
  | .hbm, ⟨67, _⟩ => ⟨S1024x20x1, .i1⟩
  | .hbm, ⟨68, _⟩ => ⟨S_, .i1⟩
  | .hbm, ⟨69, _⟩ => ⟨S1024x20, .i1⟩
  | .hbm, ⟨70, _⟩ => ⟨S1024x20, .f32⟩
  | .hbm, ⟨71, _⟩ => ⟨S_, .f32⟩
  | .hbm, ⟨72, _⟩ => ⟨S1024x20, .f32⟩
  | .hbm, ⟨73, _⟩ => ⟨S1024x20, .f32⟩
  | .hbm, ⟨74, _⟩ => ⟨S1024x20, .i32⟩
  | .hbm, ⟨75, _⟩ => ⟨S1024x20, .f32⟩
  | .hbm, ⟨76, _⟩ => ⟨S1024x20, .i32⟩
  | .hbm, ⟨77, _⟩ => ⟨S1024x20, .f32⟩
  | .hbm, ⟨78, _⟩ => ⟨S1024x20, .f32⟩
  | .hbm, ⟨79, _⟩ => ⟨S_, .f32⟩
  | .hbm, ⟨80, _⟩ => ⟨S1024, .f32⟩
  | .hbm, ⟨81, _⟩ => ⟨S1024x1, .f32⟩
  | .hbm, ⟨82, _⟩ => ⟨S_, .f32⟩
  | .hbm, ⟨83, _⟩ => ⟨S1024x1, .f32⟩
  | .hbm, ⟨84, _⟩ => ⟨S1024x1, .f32⟩
  | .hbm, ⟨85, _⟩ => ⟨S1024x20, .f32⟩
  | .hbm, ⟨86, _⟩ => ⟨S1024x20, .f32⟩
  | .hbm, ⟨87, _⟩ => ⟨S1024x20, .i32⟩
  | _, _ => ⟨S1024x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_values : Ref sig .tc := ⟨.hbm, 49, rfl⟩
abbrev main_indices : Ref sig .tc := ⟨.hbm, 50, rfl⟩
abbrev main_v32 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_cst : Ref sig .tc := ⟨.hbm, 71, rfl⟩
abbrev main_call1_v14 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_5 : Ref sig .tc := ⟨.hbm, 79, rfl⟩
abbrev main_v39 : Ref sig .tc := ⟨.hbm, 80, rfl⟩
abbrev main_v40 : Ref sig .tc := ⟨.hbm, 81, rfl⟩
abbrev main_cst_6 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩

abbrev nD : Nat := 1
abbrev τ : Topo := Topo.v7x

variable {F : FTy → Type} [FloatOps F]
-- ==== Proof.KernelFrame.lean ====
/- The frame of the kernel as compiled: what it leaves in its outputs and its scratch is not named. -/
module

public import proofs.«01_k».proof.Proof.Gen.Kernel.Skeleton
public import proofs.«01_k».proof.Proof.Gen.Kernel.Frame
public import proofs.«01_k».proof.Proof.Gen.Kernel.Points
public import Idealize.ShloMosaic.Lib.Pipeline.DatRel

@[expose] public section

set_option maxRecDepth 16384

noncomputable section

namespace Cert.Kernel.Hand

open Idealize.ShloMosaic Idealize.ShloMosaic.TcCoe Idealize.ShloMosaic.Tactic Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

set_option maxHeartbeats 4000000 in
/-- The body at any coordinates: it leaves its inputs as it found them, and something in each output block and in the scratch. -/
theorem body_run (c : Dev nD) (i : grid0.Coords) (arg1 : Memref sig .tc .vmem S128x200x128 .f32) (harg1 : arg1.IsWhole) (arg2 : Memref sig .tc .vmem S128x256 .f32) (harg2 : arg2.IsWhole) (arg3 : Memref sig .tc .vmem S128x200 .f32) (harg3 : arg3.IsWhole) (arg4 : Memref sig .tc .vmem S128x1 .i32) (harg4 : arg4.IsWhole) (arg5 : Memref sig .tc .vmem S128x1 .i32) (harg5 : arg5.IsWhole) (arg6 : Memref sig .tc .vmem S256x128 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x1 .f32) (harg9 : arg9.IsWhole) (arg10 : Memref sig .tc .vmem S128x20 .i32) (harg10 : arg10.IsWhole) (arg11 : Memref sig .tc .vmem S128x1 .f32) (harg11 : arg11.IsWhole) (arg12 : Memref sig .tc .vmem S2x128x200 .f32) (harg12 : arg12.IsWhole)
    (x0 : Vec F S128x200x128 .f32) (x1 : Vec F S128x256 .f32) (x2 : Vec F S128x200 .f32) (x3 : Vec F S128x1 .i32) (x4 : Vec F S128x1 .i32) (x5 : Vec F S256x128 .f32) (x6 : Vec F S1x256 .f32) (x7 : Vec F S1x512 .f32) (x8 : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
    intro E K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexists _; isplitr; swap; · iexact H9
      ipureintro; rfl
    isplitl [H10]
    · iexists _; iexists _; isplitr; swap; · iexact H10
      ipureintro; rfl
    iexists _; iexists _; isplitr; swap; · iexact HS0
    ipureintro; rfl

/-- The scratch operand: a whole scoped buffer passed beside the windows. -/
abbrev scratch : Memref sig .tc .vmem S2x128x200 .f32 := Memref.whole cc0_scratch0

theorem classInv_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## The proof data -/

/-- The two output windows, whose first blocks hold nothing known. -/
def held : Fin 11 → Bool := fun w => w.val == 9 || w.val == 10

/-- The proof data: inputs stay at their blocks, nothing is owed. -/
def data (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem data_A (c : Dev nD) (w : Fin cfg0.W) : (data m c).A w = V m c (Pipeline.arrRef spec0 w) := by
  dsimp only [data]

theorem after_0 (c : Dev nD) (t : Fin cfg0.N) : (data m c).after 0 t = iblk m c 0 t := by dsimp only [data]
theorem after_1 (c : Dev nD) (t : Fin cfg0.N) : (data m c).after 1 t = iblk m c 1 t := by dsimp only [data]
theorem after_2 (c : Dev nD) (t : Fin cfg0.N) : (data m c).after 2 t = iblk m c 2 t := by dsimp only [data]
theorem after_3 (c : Dev nD) (t : Fin cfg0.N) : (data m c).after 3 t = iblk m c 3 t := by dsimp only [data]
theorem after_4 (c : Dev nD) (t : Fin cfg0.N) : (data m c).after 4 t = iblk m c 4 t := by dsimp only [data]
theorem after_5 (c : Dev nD) (t : Fin cfg0.N) : (data m c).after 5 t = iblk m c 5 t := by dsimp only [data]
theorem after_6 (c : Dev nD) (t : Fin cfg0.N) : (data m c).after 6 t = iblk m c 6 t := by dsimp only [data]
theorem after_7 (c : Dev nD) (t : Fin cfg0.N) : (data m c).after 7 t = iblk m c 7 t := by dsimp only [data]
theorem after_8 (c : Dev nD) (t : Fin cfg0.N) : (data m c).after 8 t = iblk m c 8 t := by dsimp only [data]
theorem before_0 (c : Dev nD) (t : Fin cfg0.N) (d) : (data m c).before 0 t d = iblk m c 0 t :=
  before0_0_of m (data m c) (data_A m c 0) (after_0 m c) t d
theorem before_1 (c : Dev nD) (t : Fin cfg0.N) (d) : (data m c).before 1 t d = iblk m c 1 t :=
  before0_1_of m (data m c) (data_A m c 1) (after_1 m c) t d
theorem before_2 (c : Dev nD) (t : Fin cfg0.N) (d) : (data m c).before 2 t d = iblk m c 2 t :=
  before0_2_of m (data m c) (data_A m c 2) (after_2 m c) t d
theorem before_3 (c : Dev nD) (t : Fin cfg0.N) (d) : (data m c).before 3 t d = iblk m c 3 t :=
  before0_3_of m (data m c) (data_A m c 3) (after_3 m c) t d
theorem before_4 (c : Dev nD) (t : Fin cfg0.N) (d) : (data m c).before 4 t d = iblk m c 4 t :=
  before0_4_of m (data m c) (data_A m c 4) (after_4 m c) t d
theorem before_5 (c : Dev nD) (t : Fin cfg0.N) (d) : (data m c).before 5 t d = iblk m c 5 t :=
  before0_5_of m (data m c) (data_A m c 5) (after_5 m c) t d
theorem before_6 (c : Dev nD) (t : Fin cfg0.N) (d) : (data m c).before 6 t d = iblk m c 6 t :=
  before0_6_of m (data m c) (data_A m c 6) (after_6 m c) t d
theorem before_7 (c : Dev nD) (t : Fin cfg0.N) (d) : (data m c).before 7 t d = iblk m c 7 t :=
  before0_7_of m (data m c) (data_A m c 7) (after_7 m c) t d
theorem before_8 (c : Dev nD) (t : Fin cfg0.N) (d) : (data m c).before 8 t d = iblk m c 8 t :=
  before0_8_of m (data m c) (data_A m c 8) (after_8 m c) t d

/-! ## The body at a point -/

/-- What the body is called with at point `t`, window by window. -/
def pre (c : Dev nD) (t : Fin cfg0.N) : sProp 𝕄 :=
  iprop((data m c).Φ t.castSucc ∗ (data m c).owesAt () t.castSucc
    ∗ (∃ d, owns (c : Thread nD τ) (st0_0 t) fullShare ((data m c).before 0 t d))
    ∗ (∃ d, owns (c : Thread nD τ) (st0_1 t) fullShare ((data m c).before 1 t d))
    ∗ (∃ d, owns (c : Thread nD τ) (st0_2 t) fullShare ((data m c).before 2 t d))
    ∗ (∃ d, owns (c : Thread nD τ) (st0_3 t) fullShare ((data m c).before 3 t d))
    ∗ (∃ d, owns (c : Thread nD τ) (st0_4 t) fullShare ((data m c).before 4 t d))
    ∗ (∃ d, owns (c : Thread nD τ) (st0_5 t) fullShare ((data m c).before 5 t d))
    ∗ (∃ d, owns (c : Thread nD τ) (st0_6 t) fullShare ((data m c).before 6 t d))
    ∗ (∃ d, owns (c : Thread nD τ) (st0_7 t) fullShare ((data m c).before 7 t d))
    ∗ (∃ d, owns (c : Thread nD τ) (st0_8 t) fullShare ((data m c).before 8 t d))
    ∗ (∃ Y, ⌜((data m c).toRRel held (fun _ _ _ => True)).Finds 9 t Y⌝ ∗ owns (c : Thread nD τ) (st0_9 t) fullShare Y)
    ∗ (∃ Y, ⌜((data m c).toRRel held (fun _ _ _ => True)).Finds 10 t Y⌝ ∗ owns (c : Thread nD τ) (st0_10 t) fullShare Y))

/-- What the body returns at point `t`, window by window. -/
def post (c : Dev nD) (t : Fin cfg0.N) : sProp 𝕄 :=
  iprop((data m c).Φ t.succ ∗ (data m c).owesAt () t.succ
    ∗ owns (c : Thread nD τ) (st0_0 t) fullShare ((data m c).after 0 t)
    ∗ owns (c : Thread nD τ) (st0_1 t) fullShare ((data m c).after 1 t)
    ∗ owns (c : Thread nD τ) (st0_2 t) fullShare ((data m c).after 2 t)
    ∗ owns (c : Thread nD τ) (st0_3 t) fullShare ((data m c).after 3 t)
    ∗ owns (c : Thread nD τ) (st0_4 t) fullShare ((data m c).after 4 t)
    ∗ owns (c : Thread nD τ) (st0_5 t) fullShare ((data m c).after 5 t)
    ∗ owns (c : Thread nD τ) (st0_6 t) fullShare ((data m c).after 6 t)
    ∗ owns (c : Thread nD τ) (st0_7 t) fullShare ((data m c).after 7 t)
    ∗ owns (c : Thread nD τ) (st0_8 t) fullShare ((data m c).after 8 t)
    ∗ (∃ X, ⌜True⌝ ∗ owns (c : Thread nD τ) (st0_9 t) fullShare X)
    ∗ (∃ X, ⌜True⌝ ∗ owns (c : Thread nD τ) (st0_10 t) fullShare X))

set_option maxHeartbeats 1200000 in
/-- The body at any point takes what it is called with to what it returns: its run, at the staged blocks. -/
theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8]
  rw [show (data m c).owesAt () t.succ = (data m c).owesAt () t.castSucc from rfl, after_0, after_1, after_2, after_3, after_4, after_5, after_6, after_7, after_8]
  rw [show (data m c).Φ t.succ = Pipeline.ΦA spec0 c from rfl, show (data m c).Φ t.castSucc = Pipeline.ΦA spec0 c from rfl]
  rw [classInv_eq]
  iintro ⟨⟨⟨%scr, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, -, H9⟩, ⟨%d10, -, H10⟩⟩
  iapply ((body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS0]; · iexists _; iexact HS0
  iintro ⟨H0, H1, H2, H3, H4, H5, H6, H7, H8, ⟨%e9, H9⟩, ⟨%e10, H10⟩, ⟨%es, HS0⟩⟩
  isplitl [HS0 Hg]
  · isplitl [HS0]
    · iexists _; iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap; · iexact H9
    ipureintro
    exact trivial
  iexists _; isplitr; swap; · iexact H10
  ipureintro
  exact trivial

/-- The body table's row at point `t`'s slots is the body as `bodyAt0` spells it. -/
theorem row (t : Fin cfg0.N) :
    defs₀ (F := F) .tc cfg0.body (cfg0.bodyArgs t (cfg0.slots t)) = bodyAt0 t := by
  unfold defs₀; rw [Defs.onTc_tc]

theorem obligation (c : Dev nD) : BodyObligationRel (data (F := F) m c) (defs₀ (F := F)) Variants.none () Set.univ held (fun _ _ _ => True) := fun t => by
  rw [bigSep_W0, bigSep_W0, row]
  exact triple_restated (body_sound m c t) rfl .rfl fun _ => .rfl

/-! ## The launch -/

/-- The relational proof data of the launch. -/
abbrev rdata (c : Dev nD) : Pipeline.RDat τ (Elt F) Unit ℕ (UR sig nD τ) ℕ cfg0 c := (data m c).toRRel held (fun _ _ _ => True)

set_option backward.isDefEq.respectTransparency.types false in
theorem run_main : θ_run defs (onTc (τ := τ) (main (F := F))) (s₀ m ρ)
    (fun r => Pipeline.RDat.FramePost cfg0 (rdata m) (V m) r ∧ r.2.sem = fun _ => 0) :=
  Pipeline.RDat.θ_run_frame_track (Q' := _) cfgs (0 : Fin 1) launch0 defs₀ Variants.none (rdata m) m ρ main
    (hbody := fun c => (obligation m c).toRRel) (hshare := fun c => (data m c).share_full fun _ => rfl)
    (howed := fun _ _ => rfl) (V := V m) (hmain := hmain m Variants.none) (hA := data_A m)
    (hin := fun _ => .rfl) (hout := fun _ => .rfl) (hQ' := fun _ h => h)

/-- The arguments end as they were launched. -/
theorem args_kept {r : PUnit × MemSt nD τ sig (Elt F)} (h : Pipeline.RDat.FramePost cfg0 (rdata m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
    (Pipeline.RDat.FramePost.arr_in h c 1 rfl).trans ((data_A m c 1).trans (V_main_arg1 m c)),
    (Pipeline.RDat.FramePost.arr_in h c 0 rfl).trans ((data_A m c 0).trans (V_main_arg2 m c)),
    ((h c).2 main_arg3 (Pipeline.mem_restRefs_of main_arg3 (by decide) (by decide))).trans (V_main_arg3 m c),
    (Pipeline.RDat.FramePost.arr_in h c 2 rfl).trans ((data_A m c 2).trans (V_main_arg4 m c)),
    (Pipeline.RDat.FramePost.arr_in h c 3 rfl).trans ((data_A m c 3).trans (V_main_arg5 m c)),
    (Pipeline.RDat.FramePost.arr_in h c 4 rfl).trans ((data_A m c 4).trans (V_main_arg6 m c)),
    (Pipeline.RDat.FramePost.arr_in h c 5 rfl).trans ((data_A m c 5).trans (V_main_arg7 m c)),
    ((h c).2 main_arg8 (Pipeline.mem_restRefs_of main_arg8 (by decide) (by decide))).trans (V_main_arg8 m c),
    (Pipeline.RDat.FramePost.arr_in h c 7 rfl).trans ((data_A m c 7).trans (V_main_arg9 m c)),
    ((h c).2 main_arg10 (Pipeline.mem_restRefs_of main_arg10 (by decide) (by decide))).trans (V_main_arg10 m c)⟩

end Cert.Kernel.Hand

end
-- ==== Proof.IdealCode.lean ====
/- The values the body of the idealized kernel computes, named one by one in the order the body computes them:
   the selection's values as functions of the score block `z` it reads from the scratch, the scoring values as
   functions of the staged blocks. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Cert.KernelIdeal.Gen

variable {F : FTy → Type} [FloatOps F] [Named F]

/-! ## Selection -/

/-- Each lane's column number. -/
def sel14 : IVec S128x200 32 := iota .tc S128x200 32 [1] iota_S128x200_d1_w32

section
variable (z : Vec F S1x128x200 .f32)

def sel23 : IVec S128x1 32 := k0_pay4 z
def sel36 : IVec S128x1 32 := k0_pay7 z
def sel37 : FVec F S128x1 .f32 := k0_pay8 z
def sel41 : FVec F S128x200 .f32 := k0_pay9 z
def sel42 : FVec F S128 .f32 := k0_pay10 z
def sel49 : IVec S128x1 32 := k0_pay12 sel14 (sel41 z) (sel42 z)
def sel62 : IVec S128x1 32 := k0_pay15 sel14 (sel41 z) (sel42 z)
def sel75 : IVec S128x1 32 := k0_pay18 sel14 (sel41 z) (sel42 z)
def sel76 : FVec F S128x1 .f32 := k0_pay19 sel14 (sel37 z) (sel41 z) (sel42 z)
def sel80 : FVec F S128x200 .f32 := k0_pay20 sel14 (sel41 z) (sel42 z)
def sel82 : FVec F S128x1 .f32 := k0_pay21 sel14 (sel41 z) (sel42 z)
def sel88 : IVec S128x1 32 := k0_pay22 sel14 (sel41 z) (sel42 z)
def sel101 : IVec S128x1 32 := k0_pay25 sel14 (sel80 z) (sel88 z)
def sel114 : IVec S128x1 32 := k0_pay28 sel14 (sel80 z) (sel88 z)
def sel127 : IVec S128x1 32 := k0_pay31 sel14 (sel80 z) (sel88 z)
def sel128 : FVec F S128x1 .f32 := k0_pay32 sel14 (sel76 z) (sel80 z) (sel82 z) (sel88 z)
def sel132 : FVec F S128x200 .f32 := k0_pay33 sel14 (sel80 z) (sel88 z)
def sel134 : FVec F S128x1 .f32 := k0_pay34 sel14 (sel80 z) (sel88 z)
def sel140 : IVec S128x1 32 := k0_pay35 sel14 (sel132 z) (sel134 z)
def sel153 : IVec S128x1 32 := k0_pay38 sel14 (sel132 z) (sel134 z)
def sel166 : IVec S128x1 32 := k0_pay41 sel14 (sel132 z) (sel134 z)
def sel171 : FVec F S128x200 .f32 := k0_pay42 sel14 (sel132 z) (sel134 z)
def sel179 : IVec S128x1 32 := k0_pay44 sel14 (sel132 z) (sel134 z)
def sel180 : FVec F S128x1 .f32 := k0_pay45 sel14 (sel128 z) (sel132 z) (sel134 z)
def sel192 : IVec S128x1 32 := k0_pay48 sel14 (sel171 z) (sel179 z)
def sel205 : IVec S128x1 32 := k0_pay51 sel14 (sel171 z) (sel179 z)
def sel218 : IVec S128x1 32 := k0_pay54 sel14 (sel171 z) (sel179 z)
def sel219 : FVec F S128x1 .f32 := k0_pay55 sel14 (sel171 z) (sel179 z) (sel180 z)
def sel223 : FVec F S128x200 .f32 := k0_pay56 sel14 (sel171 z) (sel179 z)
def sel225 : FVec F S128x1 .f32 := k0_pay57 sel14 (sel171 z) (sel179 z)
def sel226 : FVec F S128x200 .f32 := k0_pay58 sel14 (sel171 z) (sel179 z)
def sel271 : FVec F S128x1 .f32 := k0_pay68 sel14 (sel219 z) (sel223 z) (sel225 z) (sel226 z)
def sel272 : IVec S128x20 32 := k0_pay69 sel14 (sel23 z) (sel36 z) (sel49 z) (sel62 z) (sel75 z) (sel88 z) (sel101 z) (sel114 z) (sel127 z) (sel140 z) (sel153 z) (sel166 z) (sel179 z) (sel192 z) (sel205 z) (sel218 z) (sel223 z) (sel226 z)

/-- The id block stored for the score block `z`. -/
def idBlock (sub : Vec F S128x1 .i32) : IVec S128x20 32 := k0_pay70 (sel272 z) sub
/-- The probability block stored for the score block `z`. -/
def probBlock (num : Vec F S128x1 .i32) : FVec F S128x1 .f32 := k0_pay71 (sel271 z) num
end

/-! ## Scoring -/

section
def sco303 (x : Vec F S128x200x128 .f32) : FVec F S25600x128 .bf16 := k0_pay72 x
def sco305 (W : Vec F S256x128 .f32) : FVec F S256x128 .bf16 := k0_pay73 W
def sco308 (wa : Vec F S1x256 .f32) : FVec F S8x256 .bf16 := k0_pay74 wa
def sco311 (b : Vec F S1x256 .f32) : FVec F S256x1 .f32 := k0_pay75 b
def sco319 (x : Vec F S128x200x128 .f32) (W : Vec F S256x128 .f32) (b wa : Vec F S1x256 .f32) : FVec F S1x200 .f32 := k0_pay77 (sco303 x) (sco305 W) (sco308 wa) b
def sco320 (x : Vec F S128x200x128 .f32) (W : Vec F S256x128 .f32) (b wa : Vec F S1x256 .f32) : FVec F S1x200 .f32 := k0_pay78 (sco303 x) (sco305 W) (sco308 wa) b
def sco321 (x : Vec F S128x200x128 .f32) (W : Vec F S256x128 .f32) (b wa : Vec F S1x256 .f32) : FVec F S1x200 .f32 := k0_pay79 (sco303 x) (sco305 W) (sco308 wa) b
def sco322 (x : Vec F S128x200x128 .f32) (W : Vec F S256x128 .f32) (b wa : Vec F S1x256 .f32) : FVec F S1x200 .f32 := k0_pay80 (sco303 x) (sco305 W) (sco308 wa) b
def sco323 (x : Vec F S128x200x128 .f32) (W : Vec F S256x128 .f32) (b wa : Vec F S1x256 .f32) : FVec F S1x200 .f32 := k0_pay81 (sco303 x) (sco305 W) (sco308 wa) b
def sco324 (x : Vec F S128x200x128 .f32) (W : Vec F S256x128 .f32) (b wa : Vec F S1x256 .f32) : FVec F S1x200 .f32 := k0_pay82 (sco303 x) (sco305 W) (sco308 wa) b
def sco325 (x : Vec F S128x200x128 .f32) (W : Vec F S256x128 .f32) (b wa : Vec F S1x256 .f32) : FVec F S1x200 .f32 := k0_pay83 (sco303 x) (sco305 W) (sco308 wa) b
def sco326 (x : Vec F S128x200x128 .f32) (W : Vec F S256x128 .f32) (b wa : Vec F S1x256 .f32) : FVec F S1x200 .f32 := k0_pay84 (sco303 x) (sco305 W) (sco308 wa) b
def sco327 (x : Vec F S128x200x128 .f32) (W : Vec F S256x128 .f32) (b wa : Vec F S1x256 .f32) : FVec F S1x200 .f32 := k0_pay85 (sco303 x) (sco305 W) (sco308 wa) b
def sco328 (x : Vec F S128x200x128 .f32) (W : Vec F S256x128 .f32) (b wa : Vec F S1x256 .f32) : FVec F S1x200 .f32 := k0_pay86 (sco303 x) (sco305 W) (sco308 wa) b
def sco329 (x : Vec F S128x200x128 .f32) (W : Vec F S256x128 .f32) (b wa : Vec F S1x256 .f32) : FVec F S1x200 .f32 := k0_pay87 (sco303 x) (sco305 W) (sco308 wa) b
def sco330 (x : Vec F S128x200x128 .f32) (W : Vec F S256x128 .f32) (b wa : Vec F S1x256 .f32) : FVec F S1x200 .f32 := k0_pay88 (sco303 x) (sco305 W) (sco308 wa) b
def sco331 (x : Vec F S128x200x128 .f32) (W : Vec F S256x128 .f32) (b wa : Vec F S1x256 .f32) : FVec F S1x200 .f32 := k0_pay89 (sco303 x) (sco305 W) (sco308 wa) b
def sco332 (x : Vec F S128x200x128 .f32) (W : Vec F S256x128 .f32) (b wa : Vec F S1x256 .f32) : FVec F S1x200 .f32 := k0_pay90 (sco303 x) (sco305 W) (sco308 wa) b
def sco333 (x : Vec F S128x200x128 .f32) (W : Vec F S256x128 .f32) (b wa : Vec F S1x256 .f32) : FVec F S1x200 .f32 := k0_pay91 (sco303 x) (sco305 W) (sco308 wa) b
def sco334 (x : Vec F S128x200x128 .f32) (W : Vec F S256x128 .f32) (b wa : Vec F S1x256 .f32) : FVec F S1x200 .f32 := k0_pay92 (sco303 x) (sco305 W) (sco308 wa) b
def sco335 (x : Vec F S128x200x128 .f32) (W : Vec F S256x128 .f32) (b wa : Vec F S1x256 .f32) : FVec F S1x200 .f32 := k0_pay93 (sco303 x) (sco305 W) (sco308 wa) b
def sco336 (x : Vec F S128x200x128 .f32) (W : Vec F S256x128 .f32) (b wa : Vec F S1x256 .f32) : FVec F S1x200 .f32 := k0_pay94 (sco303 x) (sco305 W) (sco308 wa) b
def sco337 (x : Vec F S128x200x128 .f32) (W : Vec F S256x128 .f32) (b wa : Vec F S1x256 .f32) : FVec F S1x200 .f32 := k0_pay95 (sco303 x) (sco305 W) (sco308 wa) b
def sco338 (x : Vec F S128x200x128 .f32) (W : Vec F S256x128 .f32) (b wa : Vec F S1x256 .f32) : FVec F S1x200 .f32 := k0_pay96 (sco303 x) (sco305 W) (sco308 wa) b
def sco339 (x : Vec F S128x200x128 .f32) (W : Vec F S256x128 .f32) (b wa : Vec F S1x256 .f32) : FVec F S1x200 .f32 := k0_pay97 (sco303 x) (sco305 W) (sco308 wa) b
def sco340 (x : Vec F S128x200x128 .f32) (W : Vec F S256x128 .f32) (b wa : Vec F S1x256 .f32) : FVec F S1x200 .f32 := k0_pay98 (sco303 x) (sco305 W) (sco308 wa) b
def sco341 (x : Vec F S128x200x128 .f32) (W : Vec F S256x128 .f32) (b wa : Vec F S1x256 .f32) : FVec F S1x200 .f32 := k0_pay99 (sco303 x) (sco305 W) (sco308 wa) b
def sco342 (x : Vec F S128x200x128 .f32) (W : Vec F S256x128 .f32) (b wa : Vec F S1x256 .f32) : FVec F S1x200 .f32 := k0_pay100 (sco303 x) (sco305 W) (sco308 wa) b
def sco343 (x : Vec F S128x200x128 .f32) (W : Vec F S256x128 .f32) (b wa : Vec F S1x256 .f32) : FVec F S1x200 .f32 := k0_pay101 (sco303 x) (sco305 W) (sco308 wa) b
def sco344 (x : Vec F S128x200x128 .f32) (W : Vec F S256x128 .f32) (b wa : Vec F S1x256 .f32) : FVec F S1x200 .f32 := k0_pay102 (sco303 x) (sco305 W) (sco308 wa) b
def sco345 (x : Vec F S128x200x128 .f32) (W : Vec F S256x128 .f32) (b wa : Vec F S1x256 .f32) : FVec F S1x200 .f32 := k0_pay103 (sco303 x) (sco305 W) (sco308 wa) b
def sco346 (x : Vec F S128x200x128 .f32) (W : Vec F S256x128 .f32) (b wa : Vec F S1x256 .f32) : FVec F S1x200 .f32 := k0_pay104 (sco303 x) (sco305 W) (sco308 wa) b
def sco347 (x : Vec F S128x200x128 .f32) (W : Vec F S256x128 .f32) (b wa : Vec F S1x256 .f32) : FVec F S1x200 .f32 := k0_pay105 (sco303 x) (sco305 W) (sco308 wa) b
def sco348 (x : Vec F S128x200x128 .f32) (W : Vec F S256x128 .f32) (b wa : Vec F S1x256 .f32) : FVec F S1x200 .f32 := k0_pay106 (sco303 x) (sco305 W) (sco308 wa) b
def sco349 (x : Vec F S128x200x128 .f32) (W : Vec F S256x128 .f32) (b wa : Vec F S1x256 .f32) : FVec F S1x200 .f32 := k0_pay107 (sco303 x) (sco305 W) (sco308 wa) b
def sco350 (x : Vec F S128x200x128 .f32) (W : Vec F S256x128 .f32) (b wa : Vec F S1x256 .f32) : FVec F S1x200 .f32 := k0_pay108 (sco303 x) (sco305 W) (sco308 wa) b
def sco357 (x : Vec F S128x200x128 .f32) (W : Vec F S256x128 .f32) (b wa : Vec F S1x256 .f32) : FVec F S1x6400 .f32 := k0_pay109 (sco303 x) (sco305 W) (sco308 wa) b
def sco358 (x : Vec F S128x200x128 .f32) (W : Vec F S256x128 .f32) (b wa : Vec F S1x256 .f32) : FVec F S1x200 .f32 := k0_pay110 (sco303 x) (sco305 W) (sco308 wa) b
def sco359 (x : Vec F S128x200x128 .f32) (W : Vec F S256x128 .f32) (b wa : Vec F S1x256 .f32) : FVec F S1x200 .f32 := k0_pay111 (sco303 x) (sco305 W) (sco308 wa) b
def sco360 (x : Vec F S128x200x128 .f32) (W : Vec F S256x128 .f32) (b wa : Vec F S1x256 .f32) : FVec F S1x200 .f32 := k0_pay112 (sco303 x) (sco305 W) (sco308 wa) b
def sco361 (x : Vec F S128x200x128 .f32) (W : Vec F S256x128 .f32) (b wa : Vec F S1x256 .f32) : FVec F S1x200 .f32 := k0_pay113 (sco303 x) (sco305 W) (sco308 wa) b
def sco362 (x : Vec F S128x200x128 .f32) (W : Vec F S256x128 .f32) (b wa : Vec F S1x256 .f32) : FVec F S1x200 .f32 := k0_pay114 (sco303 x) (sco305 W) (sco308 wa) b
def sco363 (x : Vec F S128x200x128 .f32) (W : Vec F S256x128 .f32) (b wa : Vec F S1x256 .f32) : FVec F S1x200 .f32 := k0_pay115 (sco303 x) (sco305 W) (sco308 wa) b
def sco364 (x : Vec F S128x200x128 .f32) (W : Vec F S256x128 .f32) (b wa : Vec F S1x256 .f32) : FVec F S1x200 .f32 := k0_pay116 (sco357 x W b wa)
def sco365 (x : Vec F S128x200x128 .f32) (W : Vec F S256x128 .f32) (b wa : Vec F S1x256 .f32) : FVec F S1x200 .f32 := k0_pay117 (sco357 x W b wa)
def sco366 (x : Vec F S128x200x128 .f32) (W : Vec F S256x128 .f32) (b wa : Vec F S1x256 .f32) : FVec F S1x200 .f32 := k0_pay118 (sco357 x W b wa)
def sco367 (x : Vec F S128x200x128 .f32) (W : Vec F S256x128 .f32) (b wa : Vec F S1x256 .f32) : FVec F S1x200 .f32 := k0_pay119 (sco357 x W b wa)
def sco368 (x : Vec F S128x200x128 .f32) (W : Vec F S256x128 .f32) (b wa : Vec F S1x256 .f32) : FVec F S1x200 .f32 := k0_pay120 (sco357 x W b wa)
def sco369 (x : Vec F S128x200x128 .f32) (W : Vec F S256x128 .f32) (b wa : Vec F S1x256 .f32) : FVec F S1x200 .f32 := k0_pay121 (sco357 x W b wa)
def sco370 (x : Vec F S128x200x128 .f32) (W : Vec F S256x128 .f32) (b wa : Vec F S1x256 .f32) : FVec F S1x200 .f32 := k0_pay122 (sco357 x W b wa)
def sco371 (x : Vec F S128x200x128 .f32) (W : Vec F S256x128 .f32) (b wa : Vec F S1x256 .f32) : FVec F S1x200 .f32 := k0_pay123 (sco357 x W b wa)
def sco372 (x : Vec F S128x200x128 .f32) (W : Vec F S256x128 .f32) (b wa : Vec F S1x256 .f32) : FVec F S1x200 .f32 := k0_pay124 (sco357 x W b wa)
def sco373 (x : Vec F S128x200x128 .f32) (W : Vec F S256x128 .f32) (b wa : Vec F S1x256 .f32) : FVec F S1x200 .f32 := k0_pay125 (sco357 x W b wa)
def sco374 (x : Vec F S128x200x128 .f32) (W : Vec F S256x128 .f32) (b wa : Vec F S1x256 .f32) : FVec F S1x200 .f32 := k0_pay126 (sco357 x W b wa)
def sco375 (x : Vec F S128x200x128 .f32) (W : Vec F S256x128 .f32) (b wa : Vec F S1x256 .f32) : FVec F S1x200 .f32 := k0_pay127 (sco357 x W b wa)
def sco376 (x : Vec F S128x200x128 .f32) (W : Vec F S256x128 .f32) (b wa : Vec F S1x256 .f32) : FVec F S1x200 .f32 := k0_pay128 (sco357 x W b wa)
def sco377 (x : Vec F S128x200x128 .f32) (W : Vec F S256x128 .f32) (b wa : Vec F S1x256 .f32) : FVec F S1x200 .f32 := k0_pay129 (sco357 x W b wa)
def sco378 (x : Vec F S128x200x128 .f32) (W : Vec F S256x128 .f32) (b wa : Vec F S1x256 .f32) : FVec F S1x200 .f32 := k0_pay130 (sco357 x W b wa)
def sco379 (x : Vec F S128x200x128 .f32) (W : Vec F S256x128 .f32) (b wa : Vec F S1x256 .f32) : FVec F S1x200 .f32 := k0_pay131 (sco357 x W b wa)
def sco380 (x : Vec F S128x200x128 .f32) (W : Vec F S256x128 .f32) (b wa : Vec F S1x256 .f32) : FVec F S1x200 .f32 := k0_pay132 (sco357 x W b wa)
def sco381 (x : Vec F S128x200x128 .f32) (W : Vec F S256x128 .f32) (b wa : Vec F S1x256 .f32) : FVec F S1x200 .f32 := k0_pay133 (sco357 x W b wa)
def sco382 (x : Vec F S128x200x128 .f32) (W : Vec F S256x128 .f32) (b wa : Vec F S1x256 .f32) : FVec F S1x200 .f32 := k0_pay134 (sco357 x W b wa)
def sco383 (x : Vec F S128x200x128 .f32) (W : Vec F S256x128 .f32) (b wa : Vec F S1x256 .f32) : FVec F S1x200 .f32 := k0_pay135 (sco357 x W b wa)
def sco384 (x : Vec F S128x200x128 .f32) (W : Vec F S256x128 .f32) (b wa : Vec F S1x256 .f32) : FVec F S1x200 .f32 := k0_pay136 (sco357 x W b wa)
def sco385 (x : Vec F S128x200x128 .f32) (W : Vec F S256x128 .f32) (b wa : Vec F S1x256 .f32) : FVec F S1x200 .f32 := k0_pay137 (sco357 x W b wa)
def sco386 (x : Vec F S128x200x128 .f32) (W : Vec F S256x128 .f32) (b wa : Vec F S1x256 .f32) : FVec F S1x200 .f32 := k0_pay138 (sco357 x W b wa)
def sco387 (x : Vec F S128x200x128 .f32) (W : Vec F S256x128 .f32) (b wa : Vec F S1x256 .f32) : FVec F S1x200 .f32 := k0_pay139 (sco357 x W b wa)
def sco388 (x : Vec F S128x200x128 .f32) (W : Vec F S256x128 .f32) (b wa : Vec F S1x256 .f32) : FVec F S1x200 .f32 := k0_pay140 (sco357 x W b wa)
def sco389 (x : Vec F S128x200x128 .f32) (W : Vec F S256x128 .f32) (b wa : Vec F S1x256 .f32) : FVec F S1x200 .f32 := k0_pay141 (sco357 x W b wa)
def sco396 (x : Vec F S128x200x128 .f32) (W : Vec F S256x128 .f32) (b wa : Vec F S1x256 .f32) : FVec F S1x6400 .f32 := k0_pay142 (sco303 x) (sco305 W) (sco308 wa) (sco311 b)
def sco397 (x : Vec F S128x200x128 .f32) (W : Vec F S256x128 .f32) (b wa : Vec F S1x256 .f32) : FVec F S1x200 .f32 := k0_pay143 (sco303 x) (sco305 W) (sco308 wa) (sco311 b)
def sco398 (x : Vec F S128x200x128 .f32) (W : Vec F S256x128 .f32) (b wa : Vec F S1x256 .f32) : FVec F S1x200 .f32 := k0_pay144 (sco303 x) (sco305 W) (sco308 wa) (sco311 b)
def sco399 (x : Vec F S128x200x128 .f32) (W : Vec F S256x128 .f32) (b wa : Vec F S1x256 .f32) : FVec F S1x200 .f32 := k0_pay145 (sco303 x) (sco305 W) (sco308 wa) (sco311 b)
def sco400 (x : Vec F S128x200x128 .f32) (W : Vec F S256x128 .f32) (b wa : Vec F S1x256 .f32) : FVec F S1x200 .f32 := k0_pay146 (sco303 x) (sco305 W) (sco308 wa) (sco311 b)
def sco401 (x : Vec F S128x200x128 .f32) (W : Vec F S256x128 .f32) (b wa : Vec F S1x256 .f32) : FVec F S1x200 .f32 := k0_pay147 (sco303 x) (sco305 W) (sco308 wa) (sco311 b)
def sco402 (x : Vec F S128x200x128 .f32) (W : Vec F S256x128 .f32) (b wa : Vec F S1x256 .f32) : FVec F S1x200 .f32 := k0_pay148 (sco303 x) (sco305 W) (sco308 wa) (sco311 b)
def sco403 (x : Vec F S128x200x128 .f32) (W : Vec F S256x128 .f32) (b wa : Vec F S1x256 .f32) : FVec F S1x200 .f32 := k0_pay149 (sco303 x) (sco305 W) (sco308 wa) (sco311 b)
def sco404 (x : Vec F S128x200x128 .f32) (W : Vec F S256x128 .f32) (b wa : Vec F S1x256 .f32) : FVec F S1x200 .f32 := k0_pay150 (sco303 x) (sco305 W) (sco308 wa) (sco311 b)
def sco405 (x : Vec F S128x200x128 .f32) (W : Vec F S256x128 .f32) (b wa : Vec F S1x256 .f32) : FVec F S1x200 .f32 := k0_pay151 (sco303 x) (sco305 W) (sco308 wa) (sco311 b)
def sco406 (x : Vec F S128x200x128 .f32) (W : Vec F S256x128 .f32) (b wa : Vec F S1x256 .f32) : FVec F S1x200 .f32 := k0_pay152 (sco303 x) (sco305 W) (sco308 wa) (sco311 b)
def sco407 (x : Vec F S128x200x128 .f32) (W : Vec F S256x128 .f32) (b wa : Vec F S1x256 .f32) : FVec F S1x200 .f32 := k0_pay153 (sco303 x) (sco305 W) (sco308 wa) (sco311 b)
def sco408 (x : Vec F S128x200x128 .f32) (W : Vec F S256x128 .f32) (b wa : Vec F S1x256 .f32) : FVec F S1x200 .f32 := k0_pay154 (sco303 x) (sco305 W) (sco308 wa) (sco311 b)
def sco409 (x : Vec F S128x200x128 .f32) (W : Vec F S256x128 .f32) (b wa : Vec F S1x256 .f32) : FVec F S1x200 .f32 := k0_pay155 (sco303 x) (sco305 W) (sco308 wa) (sco311 b)
def sco410 (x : Vec F S128x200x128 .f32) (W : Vec F S256x128 .f32) (b wa : Vec F S1x256 .f32) : FVec F S1x200 .f32 := k0_pay156 (sco303 x) (sco305 W) (sco308 wa) (sco311 b)
def sco411 (x : Vec F S128x200x128 .f32) (W : Vec F S256x128 .f32) (b wa : Vec F S1x256 .f32) : FVec F S1x200 .f32 := k0_pay157 (sco303 x) (sco305 W) (sco308 wa) (sco311 b)
def sco412 (x : Vec F S128x200x128 .f32) (W : Vec F S256x128 .f32) (b wa : Vec F S1x256 .f32) : FVec F S1x200 .f32 := k0_pay158 (sco303 x) (sco305 W) (sco308 wa) (sco311 b)
def sco413 (x : Vec F S128x200x128 .f32) (W : Vec F S256x128 .f32) (b wa : Vec F S1x256 .f32) : FVec F S1x200 .f32 := k0_pay159 (sco303 x) (sco305 W) (sco308 wa) (sco311 b)
def sco414 (x : Vec F S128x200x128 .f32) (W : Vec F S256x128 .f32) (b wa : Vec F S1x256 .f32) : FVec F S1x200 .f32 := k0_pay160 (sco303 x) (sco305 W) (sco308 wa) (sco311 b)
def sco415 (x : Vec F S128x200x128 .f32) (W : Vec F S256x128 .f32) (b wa : Vec F S1x256 .f32) : FVec F S1x200 .f32 := k0_pay161 (sco303 x) (sco305 W) (sco308 wa) (sco311 b)
def sco416 (x : Vec F S128x200x128 .f32) (W : Vec F S256x128 .f32) (b wa : Vec F S1x256 .f32) : FVec F S1x200 .f32 := k0_pay162 (sco303 x) (sco305 W) (sco308 wa) (sco311 b)
def sco417 (x : Vec F S128x200x128 .f32) (W : Vec F S256x128 .f32) (b wa : Vec F S1x256 .f32) : FVec F S1x200 .f32 := k0_pay163 (sco303 x) (sco305 W) (sco308 wa) (sco311 b)
def sco418 (x : Vec F S128x200x128 .f32) (W : Vec F S256x128 .f32) (b wa : Vec F S1x256 .f32) : FVec F S1x200 .f32 := k0_pay164 (sco303 x) (sco305 W) (sco308 wa) (sco311 b)
def sco419 (x : Vec F S128x200x128 .f32) (W : Vec F S256x128 .f32) (b wa : Vec F S1x256 .f32) : FVec F S1x200 .f32 := k0_pay165 (sco303 x) (sco305 W) (sco308 wa) (sco311 b)
def sco420 (x : Vec F S128x200x128 .f32) (W : Vec F S256x128 .f32) (b wa : Vec F S1x256 .f32) : FVec F S1x200 .f32 := k0_pay166 (sco303 x) (sco305 W) (sco308 wa) (sco311 b)
def sco421 (x : Vec F S128x200x128 .f32) (W : Vec F S256x128 .f32) (b wa : Vec F S1x256 .f32) : FVec F S1x200 .f32 := k0_pay167 (sco303 x) (sco305 W) (sco308 wa) (sco311 b)
def sco468 (x : Vec F S128x200x128 .f32) (W : Vec F S256x128 .f32) (b wa : Vec F S1x256 .f32) : FVec F S128x200 .f32 := k0_pay168 (sco303 x) (sco305 W) (sco308 wa) (sco311 b) (sco319 x W b wa) (sco320 x W b wa) (sco321 x W b wa) (sco322 x W b wa) (sco323 x W b wa) (sco324 x W b wa) (sco325 x W b wa) (sco326 x W b wa) (sco327 x W b wa) (sco328 x W b wa) (sco329 x W b wa) (sco330 x W b wa) (sco331 x W b wa) (sco332 x W b wa) (sco333 x W b wa) (sco334 x W b wa) (sco335 x W b wa) (sco336 x W b wa) (sco337 x W b wa) (sco338 x W b wa) (sco339 x W b wa) (sco340 x W b wa) (sco341 x W b wa) (sco342 x W b wa) (sco343 x W b wa) (sco344 x W b wa) (sco345 x W b wa) (sco346 x W b wa) (sco347 x W b wa) (sco348 x W b wa) (sco349 x W b wa) (sco350 x W b wa) (sco358 x W b wa) (sco359 x W b wa) (sco360 x W b wa) (sco361 x W b wa) (sco362 x W b wa) (sco363 x W b wa) (sco364 x W b wa) (sco365 x W b wa) (sco366 x W b wa) (sco367 x W b wa) (sco368 x W b wa) (sco369 x W b wa) (sco370 x W b wa) (sco371 x W b wa) (sco372 x W b wa) (sco373 x W b wa) (sco374 x W b wa) (sco375 x W b wa) (sco376 x W b wa) (sco377 x W b wa) (sco378 x W b wa) (sco379 x W b wa) (sco380 x W b wa) (sco381 x W b wa) (sco382 x W b wa) (sco383 x W b wa) (sco384 x W b wa) (sco385 x W b wa) (sco386 x W b wa) (sco387 x W b wa) (sco388 x W b wa) (sco389 x W b wa) (sco396 x W b wa) (sco397 x W b wa) (sco398 x W b wa) (sco399 x W b wa) (sco400 x W b wa) (sco401 x W b wa) (sco402 x W b wa) (sco403 x W b wa) (sco404 x W b wa) (sco405 x W b wa) (sco406 x W b wa) (sco407 x W b wa) (sco408 x W b wa) (sco409 x W b wa) (sco410 x W b wa) (sco411 x W b wa) (sco412 x W b wa) (sco413 x W b wa) (sco414 x W b wa) (sco415 x W b wa) (sco416 x W b wa) (sco417 x W b wa) (sco418 x W b wa) (sco419 x W b wa) (sco420 x W b wa) (sco421 x W b wa)

/-- The score block stored in the scratch. -/
def scoreBlock (x : Vec F S128x200x128 .f32) (sg : Vec F S128x256 .f32) (mask : Vec F S128x200 .f32) (W : Vec F S256x128 .f32)
    (b wa wb : Vec F S1x256 .f32) (bn : Vec F S1x1 .f32) : FVec F S1x128x200 .f32 :=
  k0_pay1 (sco468 x W b wa) (k0_pay169 wb sg) bn mask
end

end Cert.KernelIdeal.Hand

end
-- ==== Proof.IdealRun.lean ====
/- The run of the idealized kernel's body on its staged blocks and its scratch: what each output block and the scratch hold
   afterwards, in terms of the values named in `IdealCode`. -/
module

public import proofs.«01_k».proof.Proof.IdealCode
public import Idealize.ShloMosaic.Lib.VecWindow

@[expose] public section

set_option maxRecDepth 16384

noncomputable section

namespace Cert.KernelIdeal.Hand

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The slot of the scratch the body reads at coordinates `i`. -/
def slotBefore (i : grid0.Coords) (scr : Vec F S2x128x200 .f32) : Vec F S1x128x200 .f32 :=
  VecWindow.window (s := S2x128x200) scr (k0_off1 i) S1x128x200.size (k0_off1_inb i)

/-- The scratch with the score block `w` in the slot the body writes at coordinates `i`. -/
def slotPut (i : grid0.Coords) (scr : Vec F S2x128x200 .f32) (w : Vec F S1x128x200 .f32) : Vec F S2x128x200 .f32 :=
  VecWindow.put (s := S2x128x200) scr (k0_off2 i) S1x128x200.size w

/-- The first half of the weight row. -/
def rowLo (x : Vec F S1x512 .f32) : Vec F S1x256 .f32 :=
  VecWindow.window (s := S1x512) x ![0, 0] S1x256.size inb_S1x512_S1x256_0_0
/-- The second half of the weight row. -/
def rowHi (x : Vec F S1x512 .f32) : Vec F S1x256 .f32 :=
  VecWindow.window (s := S1x512) x ![0, 256] S1x256.size inb_S1x512_S1x256_0_256

set_option maxHeartbeats 4000000 in
theorem body_run (c : Dev nD) (i : grid0.Coords) (arg1 : Memref sig .tc .vmem S128x200x128 .f32) (harg1 : arg1.IsWhole) (arg2 : Memref sig .tc .vmem S128x256 .f32) (harg2 : arg2.IsWhole) (arg3 : Memref sig .tc .vmem S128x200 .f32) (harg3 : arg3.IsWhole) (arg4 : Memref sig .tc .vmem S128x1 .i32) (harg4 : arg4.IsWhole) (arg5 : Memref sig .tc .vmem S128x1 .i32) (harg5 : arg5.IsWhole) (arg6 : Memref sig .tc .vmem S256x128 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x1 .f32) (harg9 : arg9.IsWhole) (arg10 : Memref sig .tc .vmem S128x20 .i32) (harg10 : arg10.IsWhole) (arg11 : Memref sig .tc .vmem S128x1 .f32) (harg11 : arg11.IsWhole) (arg12 : Memref sig .tc .vmem S2x128x200 .f32) (harg12 : arg12.IsWhole)
    (x0 : Vec F S128x200x128 .f32) (x1 : Vec F S128x256 .f32) (x2 : Vec F S128x200 .f32) (x3 : Vec F S128x1 .i32) (x4 : Vec F S128x1 .i32) (x5 : Vec F S256x128 .f32) (x6 : Vec F S1x256 .f32) (x7 : Vec F S1x512 .f32) (x8 : Vec F S1x1 .f32) (scr : Vec F S2x128x200 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare scr
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (idBlock (slotBefore i scr) x4) ∗ owns (c : Thread nD τ) arg11 fullShare (probBlock (slotBefore i scr) x3) ∗ owns (c : Thread nD τ) arg12 fullShare (slotPut i scr (scoreBlock x0 x1 x2 x5 x6 (rowLo x7) (rowHi x7) x8))) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
    intro E K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hs0
    have e0 : (View.readAt (Elt F) arg1.view (Rect.unit (s := S128x200x128) ![0, 0, 0] S128x200x128.size inb_S128x200x128_S128x200x128_0_0_0).toLoadRect (harg1.unread x0)) = x0 := (View.readAt_full _ _ _).trans hf0
    have e1 : (View.readAt (Elt F) arg2.view (Rect.unit (s := S128x256) ![0, 0] S128x256.size inb_S128x256_S128x256_0_0).toLoadRect (harg2.unread x1)) = x1 := (View.readAt_full _ _ _).trans hf1
    have e2 : (View.readAt (Elt F) arg3.view (Rect.unit (s := S128x200) ![0, 0] S128x200.size inb_S128x200_S128x200_0_0).toLoadRect (harg3.unread x2)) = x2 := (View.readAt_full _ _ _).trans hf2
    have e3 : (View.readAt (Elt F) arg4.view (Rect.unit (s := S128x1) ![0, 0] S128x1.size inb_S128x1_S128x1_0_0).toLoadRect (harg4.unread x3)) = x3 := (View.readAt_full _ _ _).trans hf3
    have e4 : (View.readAt (Elt F) arg5.view (Rect.unit (s := S128x1) ![0, 0] S128x1.size inb_S128x1_S128x1_0_0).toLoadRect (harg5.unread x4)) = x4 := (View.readAt_full _ _ _).trans hf4
    have e5 : (View.readAt (Elt F) arg6.view (Rect.unit (s := S256x128) ![0, 0] S256x128.size inb_S256x128_S256x128_0_0).toLoadRect (harg6.unread x5)) = x5 := (View.readAt_full _ _ _).trans hf5
    have e6 : (View.readAt (Elt F) arg7.view (Rect.unit (s := S1x256) ![0, 0] S1x256.size inb_S1x256_S1x256_0_0).toLoadRect (harg7.unread x6)) = x6 := (View.readAt_full _ _ _).trans hf6
    have e8 : (View.readAt (Elt F) arg9.view (Rect.unit (s := S1x1) ![0, 0] S1x1.size inb_S1x1_S1x1_0_0).toLoadRect (harg9.unread x8)) = x8 := (View.readAt_full _ _ _).trans hf8
    have es : (View.readAt (Elt F) arg12.view (Rect.unit (s := S2x128x200) (k0_off1 i) S1x128x200.size (k0_off1_inb i)).toLoadRect (harg12.unread scr)) = slotBefore i scr := by
      rw [View.readAt_unit _ _ _ rfl (k0_off1_inb i), hs0]; rfl
    have elo : (View.readAt (Elt F) arg8.view (Rect.unit (s := S1x512) ![0, 0] S1x256.size inb_S1x512_S1x256_0_0).toLoadRect (harg8.unread x7)) = rowLo x7 := by
      rw [View.readAt_unit _ _ _ rfl inb_S1x512_S1x256_0_0, hf7]; rfl
    have ehi : (View.readAt (Elt F) arg8.view (Rect.unit (s := S1x512) ![0, 256] S1x256.size inb_S1x512_S1x256_0_256).toLoadRect (harg8.unread x7)) = rowHi x7 := by
      rw [View.readAt_unit _ _ _ rfl inb_S1x512_S1x256_0_256, hf7]; rfl
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; swap; · iexact H9
      ipureintro
      exact (View.read_writes_full _ _ _ _ _).trans rfl
    isplitl [H10]
    · iexists _; isplitr; swap; · iexact H10
      ipureintro
      exact (View.read_writes_full _ _ _ _ _).trans rfl
    iexists _; isplitr; swap; · iexact HS0
    ipureintro
    refine (View.read_writes_cons_put _ _ _ _ _ rfl).trans ?_
    rw [View.writes_nil, hs0]
    refine congrArg (slotPut i scr) ?_
    rfl

end Cert.KernelIdeal.Hand

end
-- ==== Proof.IdealFrame.lean ====
/- The launch of the idealized kernel. Its scratch is carried from one grid point to the next: a point scores its own block
   into one slot and selects from the slot the point before it scored. At the first point that slot holds nothing known,
   so what the two output windows hold is stated from the second point on. -/
module

public import proofs.«01_k».proof.Proof.IdealRun
public import proofs.«01_k».proof.Proof.Gen.KernelIdeal.Frame
public import proofs.«01_k».proof.Proof.Gen.KernelIdeal.Points
public import Idealize.ShloMosaic.Lib.Pipeline.DatRel

@[expose] public section

set_option maxRecDepth 16384

noncomputable section

namespace Cert.KernelIdeal.Hand

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratch carries -/

/-- The slot a point reads is the one the point before it wrote. -/
theorem off_next : ∀ t u : Fin grid0.N, u.val = t.val + 1 → ∀ a, k0_off1 (grid0.coords u) a = k0_off2 (grid0.coords t) a := by
  decide +kernel

/-- A score block put at one point is what the next point reads. -/
theorem slotBefore_slotPut (t u : Fin grid0.N) (h : u.val = t.val + 1) (scr : Vec F S2x128x200 .f32) (w : Vec F S1x128x200 .f32) :
    slotBefore (grid0.coords u) (slotPut (grid0.coords t) scr w) = w := by
  have e : k0_off1 (grid0.coords u) = k0_off2 (grid0.coords t) := funext (off_next t u h)
  have key : ∀ (o : Fin 3 → ℕ) (ho : ∀ a, o a + S1x128x200.size a ≤ S2x128x200.size a), o = k0_off2 (grid0.coords t) →
      VecWindow.window (s := S2x128x200) (slotPut (grid0.coords t) scr w) o S1x128x200.size ho = w := by
    intro o ho heq
    subst heq
    exact VecWindow.window_put_same (s := S2x128x200) scr _ S1x128x200.size ho w
  exact key _ (k0_off1_inb _) e

/-- The score block point `t` computes from its staged blocks. -/
def scoreAt (c : Dev nD) (t : Fin cfg0.N) : FVec F S1x128x200 .f32 :=
  scoreBlock (iblk m c 0 t) (iblk m c 1 t) (iblk m c 2 t) (iblk m c 5 t) (iblk m c 6 t) (rowLo (iblk m c 7 t)) (rowHi (iblk m c 7 t)) (iblk m c 8 t)

/-- The scratch operand: a whole scoped buffer passed beside the windows. -/
abbrev scratch : Memref sig .tc .vmem S2x128x200 .f32 := Memref.whole cc0_scratch0

/-- Between points the scratch holds, in the slot the next point reads, the score block of the point before. -/
def Carried (c : Dev nD) (n : ℕ) (d : Vec F S2x128x200 .f32) : Prop :=
  ∀ (h0 : 0 < n) (h : n < cfg0.N), slotBefore (grid0.coords ⟨n, h⟩) d = scoreAt m c ⟨n - 1, lt_of_le_of_lt (Nat.sub_le _ _) h⟩

/-- The invariant of the pipeline: the scratch as carried, and the generator register. -/
def carry (c : Dev nD) (t : Fin (cfg0.N + 1)) : sProp 𝕄 :=
  iprop((∃ d, ⌜Carried m c t.val d⌝ ∗ owns (c : Thread nD τ) scratch fullShare d) ∗ (∃ r, prngReg c r))

theorem classInv_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

theorem carry_in (c : Dev nD) : (Pipeline.ΦA spec0 c : sProp 𝕄) ⊢ carry m c 0 := by
  rw [classInv_eq]; unfold carry
  iintro ⟨⟨%d, H⟩, Hg⟩
  isplitl [H]
  · iexists d; isplitr
    · ipureintro; exact fun h0 => absurd h0 (Nat.lt_irrefl 0)
    iexact H
  iexact Hg

theorem carry_out (c : Dev nD) (t) : carry m c t ⊢ (Pipeline.ΦA spec0 c : sProp 𝕄) := by
  rw [classInv_eq]; unfold carry
  iintro ⟨⟨%d, -, H⟩, Hg⟩
  isplitl [H]
  · iexists d; iexact H
  iexact Hg

/-! ## The proof data -/

/-- The two output windows, whose first blocks hold nothing known. -/
def held : Fin 11 → Bool := fun w => w.val == 9 || w.val == 10

/-- What an output window holds after point `t`, from the second point on: the block selected from the scores of the
    block before. -/
def Out (c : Dev nD) : (w : Fin cfg0.W) → (t : Fin cfg0.N) → ((cfg0.win w).block.Idx → Elt F (cfg0.win w).elt) → Prop
  | ⟨9, _⟩, t, X => 0 < t.val → X = idBlock (scoreAt m c ⟨t.val - 1, lt_of_le_of_lt (Nat.sub_le _ _) t.isLt⟩) (iblk m c 4 t)
  | ⟨10, _⟩, t, X => 0 < t.val → X = probBlock (scoreAt m c ⟨t.val - 1, lt_of_le_of_lt (Nat.sub_le _ _) t.isLt⟩) (iblk m c 3 t)
  | _, _, _ => True

/-- The proof data: inputs stay at their blocks, the scratch is carried, nothing is owed. -/
def data (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
  Φ := carry m c
  q _ := fullShare
  owed _ := 0

theorem data_A (c : Dev nD) (w : Fin cfg0.W) : (data m c).A w = V m c (Pipeline.arrRef spec0 w) := by
  dsimp only [data]

theorem after_0 (c : Dev nD) (t : Fin cfg0.N) : (data m c).after 0 t = iblk m c 0 t := by dsimp only [data]
theorem after_1 (c : Dev nD) (t : Fin cfg0.N) : (data m c).after 1 t = iblk m c 1 t := by dsimp only [data]
theorem after_2 (c : Dev nD) (t : Fin cfg0.N) : (data m c).after 2 t = iblk m c 2 t := by dsimp only [data]
theorem after_3 (c : Dev nD) (t : Fin cfg0.N) : (data m c).after 3 t = iblk m c 3 t := by dsimp only [data]
theorem after_4 (c : Dev nD) (t : Fin cfg0.N) : (data m c).after 4 t = iblk m c 4 t := by dsimp only [data]
theorem after_5 (c : Dev nD) (t : Fin cfg0.N) : (data m c).after 5 t = iblk m c 5 t := by dsimp only [data]
theorem after_6 (c : Dev nD) (t : Fin cfg0.N) : (data m c).after 6 t = iblk m c 6 t := by dsimp only [data]
theorem after_7 (c : Dev nD) (t : Fin cfg0.N) : (data m c).after 7 t = iblk m c 7 t := by dsimp only [data]
theorem after_8 (c : Dev nD) (t : Fin cfg0.N) : (data m c).after 8 t = iblk m c 8 t := by dsimp only [data]
theorem before_0 (c : Dev nD) (t : Fin cfg0.N) (d) : (data m c).before 0 t d = iblk m c 0 t :=
  before0_0_of m (data m c) (data_A m c 0) (after_0 m c) t d
theorem before_1 (c : Dev nD) (t : Fin cfg0.N) (d) : (data m c).before 1 t d = iblk m c 1 t :=
  before0_1_of m (data m c) (data_A m c 1) (after_1 m c) t d
theorem before_2 (c : Dev nD) (t : Fin cfg0.N) (d) : (data m c).before 2 t d = iblk m c 2 t :=
  before0_2_of m (data m c) (data_A m c 2) (after_2 m c) t d
theorem before_3 (c : Dev nD) (t : Fin cfg0.N) (d) : (data m c).before 3 t d = iblk m c 3 t :=
  before0_3_of m (data m c) (data_A m c 3) (after_3 m c) t d
theorem before_4 (c : Dev nD) (t : Fin cfg0.N) (d) : (data m c).before 4 t d = iblk m c 4 t :=
  before0_4_of m (data m c) (data_A m c 4) (after_4 m c) t d
theorem before_5 (c : Dev nD) (t : Fin cfg0.N) (d) : (data m c).before 5 t d = iblk m c 5 t :=
  before0_5_of m (data m c) (data_A m c 5) (after_5 m c) t d
theorem before_6 (c : Dev nD) (t : Fin cfg0.N) (d) : (data m c).before 6 t d = iblk m c 6 t :=
  before0_6_of m (data m c) (data_A m c 6) (after_6 m c) t d
theorem before_7 (c : Dev nD) (t : Fin cfg0.N) (d) : (data m c).before 7 t d = iblk m c 7 t :=
  before0_7_of m (data m c) (data_A m c 7) (after_7 m c) t d
theorem before_8 (c : Dev nD) (t : Fin cfg0.N) (d) : (data m c).before 8 t d = iblk m c 8 t :=
  before0_8_of m (data m c) (data_A m c 8) (after_8 m c) t d

/-! ## The body at a point -/

/-- What the body is called with at point `t`, window by window. -/
def pre (c : Dev nD) (t : Fin cfg0.N) : sProp 𝕄 :=
  iprop((data m c).Φ t.castSucc ∗ (data m c).owesAt () t.castSucc
    ∗ (∃ d, owns (c : Thread nD τ) (st0_0 t) fullShare ((data m c).before 0 t d))
    ∗ (∃ d, owns (c : Thread nD τ) (st0_1 t) fullShare ((data m c).before 1 t d))
    ∗ (∃ d, owns (c : Thread nD τ) (st0_2 t) fullShare ((data m c).before 2 t d))
    ∗ (∃ d, owns (c : Thread nD τ) (st0_3 t) fullShare ((data m c).before 3 t d))
    ∗ (∃ d, owns (c : Thread nD τ) (st0_4 t) fullShare ((data m c).before 4 t d))
    ∗ (∃ d, owns (c : Thread nD τ) (st0_5 t) fullShare ((data m c).before 5 t d))
    ∗ (∃ d, owns (c : Thread nD τ) (st0_6 t) fullShare ((data m c).before 6 t d))
    ∗ (∃ d, owns (c : Thread nD τ) (st0_7 t) fullShare ((data m c).before 7 t d))
    ∗ (∃ d, owns (c : Thread nD τ) (st0_8 t) fullShare ((data m c).before 8 t d))
    ∗ (∃ Y, ⌜((data m c).toRRel held (Out m c)).Finds 9 t Y⌝ ∗ owns (c : Thread nD τ) (st0_9 t) fullShare Y)
    ∗ (∃ Y, ⌜((data m c).toRRel held (Out m c)).Finds 10 t Y⌝ ∗ owns (c : Thread nD τ) (st0_10 t) fullShare Y))

/-- What the body returns at point `t`, window by window. -/
def post (c : Dev nD) (t : Fin cfg0.N) : sProp 𝕄 :=
  iprop((data m c).Φ t.succ ∗ (data m c).owesAt () t.succ
    ∗ owns (c : Thread nD τ) (st0_0 t) fullShare ((data m c).after 0 t)
    ∗ owns (c : Thread nD τ) (st0_1 t) fullShare ((data m c).after 1 t)
    ∗ owns (c : Thread nD τ) (st0_2 t) fullShare ((data m c).after 2 t)
    ∗ owns (c : Thread nD τ) (st0_3 t) fullShare ((data m c).after 3 t)
    ∗ owns (c : Thread nD τ) (st0_4 t) fullShare ((data m c).after 4 t)
    ∗ owns (c : Thread nD τ) (st0_5 t) fullShare ((data m c).after 5 t)
    ∗ owns (c : Thread nD τ) (st0_6 t) fullShare ((data m c).after 6 t)
    ∗ owns (c : Thread nD τ) (st0_7 t) fullShare ((data m c).after 7 t)
    ∗ owns (c : Thread nD τ) (st0_8 t) fullShare ((data m c).after 8 t)
    ∗ (∃ X, ⌜Out m c 9 t X⌝ ∗ owns (c : Thread nD τ) (st0_9 t) fullShare X)
    ∗ (∃ X, ⌜Out m c 10 t X⌝ ∗ owns (c : Thread nD τ) (st0_10 t) fullShare X))

set_option maxHeartbeats 1200000 in
/-- The body at any point takes what it is called with to what it returns: its run, at the staged blocks and the carried scratch. -/
theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8]
  rw [show (data m c).owesAt () t.succ = (data m c).owesAt () t.castSucc from rfl, after_0, after_1, after_2, after_3, after_4, after_5, after_6, after_7, after_8]
  rw [show (data m c).Φ t.succ = carry m c t.succ from rfl, show (data m c).Φ t.castSucc = carry m c t.castSucc from rfl]
  unfold carry
  iintro ⟨⟨⟨%scr, %hscr, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, -, H9⟩, ⟨%d10, -, H10⟩⟩
  iapply ((body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) scr) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS0]; · iexact HS0
  iintro ⟨H0, H1, H2, H3, H4, H5, H6, H7, H8, H9, H10, HS0⟩
  isplitl [HS0 Hg]
  · isplitl [HS0]
    · iexists _; isplitr; swap; · iexact HS0
      ipureintro
      exact fun _ h => slotBefore_slotPut t ⟨t.val + 1, h⟩ rfl scr _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap; · iexact H9
    ipureintro
    exact fun h0 => congrArg (fun z => idBlock z (iblk m c 4 t)) (hscr h0 t.isLt)
  iexists _; isplitr; swap; · iexact H10
  ipureintro
  exact fun h0 => congrArg (fun z => probBlock z (iblk m c 3 t)) (hscr h0 t.isLt)

/-- The body table's row at point `t`'s slots is the body as `bodyAt0` spells it. -/
theorem row (t : Fin cfg0.N) :
    defs₀ (F := F) .tc cfg0.body (cfg0.bodyArgs t (cfg0.slots t)) = bodyAt0 t := by
  unfold defs₀; rw [Defs.onTc_tc]

theorem obligation (c : Dev nD) : BodyObligationRel (data (F := F) m c) (defs₀ (F := F)) Variants.none () Set.univ held (Out m c) := fun t => by
  rw [bigSep_W0, bigSep_W0, row]
  exact triple_restated (body_sound m c t) rfl .rfl fun _ => .rfl

/-! ## The launch -/

/-- The relational proof data of the launch. -/
abbrev rdata (c : Dev nD) : Pipeline.RDat τ (Elt F) Unit ℕ (UR sig nD τ) ℕ cfg0 c := (data m c).toRRel held (Out m c)

set_option backward.isDefEq.respectTransparency.types false in
theorem run_main : θ_run defs (onTc (τ := τ) (main (F := F))) (s₀ m ρ)
    (fun r => Pipeline.RDat.FramePost cfg0 (rdata m) (V m) r ∧ r.2.sem = fun _ => 0) :=
  Pipeline.RDat.θ_run_frame_track (Q' := _) cfgs (0 : Fin 1) launch0 defs₀ Variants.none (rdata m) m ρ main
    (hbody := fun c => (obligation m c).toRRel) (hshare := fun c => (data m c).share_full fun _ => rfl)
    (howed := fun _ _ => rfl) (V := V m) (hmain := hmain m Variants.none) (hA := data_A m)
    (hin := carry_in m) (hout := fun c => carry_out m c _) (hQ' := fun _ h => h)

/-- The arguments end as they were launched. -/
theorem args_kept {r : PUnit × MemSt nD τ sig (Elt F)} (h : Pipeline.RDat.FramePost cfg0 (rdata m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
    (Pipeline.RDat.FramePost.arr_in h c 1 rfl).trans ((data_A m c 1).trans (V_main_arg1 m c)),
    (Pipeline.RDat.FramePost.arr_in h c 0 rfl).trans ((data_A m c 0).trans (V_main_arg2 m c)),
    ((h c).2 main_arg3 (Pipeline.mem_restRefs_of main_arg3 (by decide) (by decide))).trans (V_main_arg3 m c),
    (Pipeline.RDat.FramePost.arr_in h c 2 rfl).trans ((data_A m c 2).trans (V_main_arg4 m c)),
    (Pipeline.RDat.FramePost.arr_in h c 3 rfl).trans ((data_A m c 3).trans (V_main_arg5 m c)),
    (Pipeline.RDat.FramePost.arr_in h c 4 rfl).trans ((data_A m c 4).trans (V_main_arg6 m c)),
    (Pipeline.RDat.FramePost.arr_in h c 5 rfl).trans ((data_A m c 5).trans (V_main_arg7 m c)),
    ((h c).2 main_arg8 (Pipeline.mem_restRefs_of main_arg8 (by decide) (by decide))).trans (V_main_arg8 m c),
    (Pipeline.RDat.FramePost.arr_in h c 7 rfl).trans ((data_A m c 7).trans (V_main_arg9 m c)),
    ((h c).2 main_arg10 (Pipeline.mem_restRefs_of main_arg10 (by decide) (by decide))).trans (V_main_arg10 m c)⟩

end Cert.KernelIdeal.Hand

end
-- ==== Proof.Frames.lean ====
/- The frames of the three programs, what the named constant preserves, and the side conditions of the precondition. -/
module

public import proofs.«01_k».proof.Defs
public import proofs.«01_k».proof.Proof.KernelFrame
public import proofs.«01_k».proof.Proof.Gen.ReferenceIdeal.Run
public import proofs.«01_k».proof.Proof.IdealFrame
public import Idealize.ShloMosaic.Lib.Quiescent

@[expose] public section

noncomputable section

namespace Cert.Proof.Parts

open Idealize.ShloMosaic Idealize.ShloMosaic.TcCoe Idealize.SL.Sem

/-- The side conditions of the precondition's operations. -/
theorem preFacts : Cert.Pre_scores_and_ids_in_range.Facts where
  reducesTo_S1024x200_S1024_d1 := Cert.ReferenceIdeal.Gen.reducesTo_S1024x200_S1024_d1
  h_S_ := Cert.ReferenceIdeal.Gen.h_S_
  bcast_S1024_S1024x1_0 := Cert.ReferenceIdeal.Gen.bcast_S1024_S1024x1_0
  bcast_S_S1024x1 := Cert.ReferenceIdeal.Gen.bcast_S_S1024x1

theorem frameP : Cert.quiescent_Kernel := fun m ρ _ =>
  (θ_run Cert.Kernel.defs _ _).mono (fun r h => ⟨fun c => Cert.Kernel.Hand.args_kept m h.1 c, h.2⟩)
    (Cert.Kernel.Hand.run_main (F := Bits) m ρ)

theorem framePI : Cert.quiescent_KernelIdeal := fun m ρ _ =>
  (θ_run Cert.KernelIdeal.defs _ _).mono (fun r h => ⟨fun c => Cert.KernelIdeal.Hand.args_kept m h.1 c, h.2⟩)
    (Cert.KernelIdeal.Hand.run_main (F := Ideal) m ρ)

theorem frameRI : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The literal of the mean is the nearest number of its format to one twentieth, which is what its name stands for. -/
theorem preserves : Cert.preserves_Kernel_KernelIdeal :=
  IdealRules.named_const.statement Cert.KernelIdeal.κ "inv_k" .f32 0x3D4CCCCD#32 ((1 / 20 : ℝ) : EReal) rfl

end Cert.Proof.Parts

end
-- ==== Proof.Stages.lean ====
/- The selection of the idealized kernel, stage by stage: each stage takes the greatest entry of every row, the first place
   that holds it, and strikes that place out. The values named in `IdealCode` are those of the stages. -/
module

public import proofs.«01_k».proof.Proof.IdealCode

@[expose] public section

set_option maxRecDepth 16384

noncomputable section

namespace Cert.KernelIdeal.Hand

open Idealize.ShloMosaic Idealize.ShloMosaic.TcCoe Cert.KernelIdeal.Gen

variable {F : FTy → Type} [FloatOps F] [Named F]

/-- The greatest entry of each row. -/
def rowTop (w : FVec F S128x200 .f32) : FVec F S128 .f32 :=
  multiReduction .maximumf [1] S128 w 0xFF800000#32 reduces_S128x200_S128 (.inl rfl) rfl

/-- The same as a column. -/
def colTop (w : FVec F S128x200 .f32) : FVec F S128x1 .f32 := shapeCast S128x1 (rowTop w) shapeCasts_S128_S128x1

/-- The first place of each row equal to that row's entry of `m`. -/
def placeOf (w m : FVec F S128x200 .f32) : IVec S128x1 32 :=
  shapeCast S128x1 (multiReductionI .minsi [1] S128 (select (cmpf .oeq w m) sel14 (broadcast S128x200 200#32)) 2147483647#32 reduces_S128x200_S128 rfl) shapeCasts_S128_S128x1

/-- The first place of each row that holds its greatest entry. -/
def colFirst (w : FVec F S128x200 .f32) : IVec S128x1 32 :=
  placeOf w (broadcastTo S128x200 (colTop w) broadcasts_S128x1_S128x200)

/-- Each row with its place `p` overwritten by −1. -/
def strikeAt (p : IVec S128x1 32) (w : FVec F S128x200 .f32) : FVec F S128x200 .f32 :=
  select (cmpi .eq sel14 (broadcastTo S128x200 p broadcasts_S128x1_S128x200)) (broadcast S128x200 (Scalar.ofBits .f32 0xBF800000#32 : F .f32)) w

/-- The rows at each stage, from the softmax of the scores on. -/
def stage (z : Vec F S1x128x200 .f32) : ℕ → FVec F S128x200 .f32
  | 0 => k0_pay2 z
  | k + 1 => strikeAt (colFirst (stage z k)) (stage z k)

section
variable (z : Vec F S1x128x200 .f32)

/-! ### One step of the named values -/

theorem pay5_stage : k0_pay5 z = stage z 1 := rfl
theorem sel23_stage : sel23 z = colFirst (stage z 0) := rfl
theorem sel36_stage : sel36 z = colFirst (stage z 1) := rfl
theorem sel41_stage : sel41 z = stage z 2 := rfl
theorem sel42_stage : sel42 z = rowTop (stage z 2) := rfl
theorem sel37_stage : sel37 z = addf (addf (broadcast S128x1 (Scalar.ofBits .f32 0x00000000#32)) (colTop (stage z 0))) (colTop (stage z 1)) := rfl
end

section
variable (w : FVec F S128x200 .f32)

/-- One stage after `w`. -/
def next : FVec F S128x200 .f32 := strikeAt (colFirst w) w

theorem pay12_eq : k0_pay12 sel14 w (rowTop w) = colFirst w := rfl
theorem pay13_eq : k0_pay13 sel14 w (rowTop w) = next w := rfl
theorem pay14_eq : k0_pay14 sel14 w (rowTop w) = colTop (next w) := rfl
theorem pay15_eq : k0_pay15 sel14 w (rowTop w) = colFirst (next w) := rfl
theorem pay16_eq : k0_pay16 sel14 w (rowTop w) = next (next w) := rfl
theorem pay17_eq : k0_pay17 sel14 w (rowTop w) = colTop (next (next w)) := rfl
theorem pay18_eq : k0_pay18 sel14 w (rowTop w) = colFirst (next (next w)) := rfl
theorem pay20_eq : k0_pay20 sel14 w (rowTop w) = next (next (next w)) := rfl
theorem pay21_eq : k0_pay21 sel14 w (rowTop w) = colTop (next (next (next w))) := rfl
theorem pay22_eq : k0_pay22 sel14 w (rowTop w) = colFirst (next (next (next w))) := rfl
theorem pay19_eq (s : FVec F S128x1 .f32) :
    k0_pay19 sel14 s w (rowTop w) = addf (addf (addf s (colTop w)) (colTop (next w))) (colTop (next (next w))) := rfl

theorem pay23_eq : k0_pay23 sel14 w (colFirst w) = next w := rfl
theorem pay25_eq : k0_pay25 sel14 w (colFirst w) = colFirst (next w) := rfl
theorem pay26_eq : k0_pay26 sel14 w (colFirst w) = next (next w) := rfl
theorem pay28_eq : k0_pay28 sel14 w (colFirst w) = colFirst (next (next w)) := rfl
theorem pay31_eq : k0_pay31 sel14 w (colFirst w) = colFirst (next (next (next w))) := rfl
theorem pay33_eq : k0_pay33 sel14 w (colFirst w) = next (next (next (next w))) := rfl
theorem pay34_eq : k0_pay34 sel14 w (colFirst w) = colTop (next (next (next (next w)))) := rfl
theorem pay32_eq (s t : FVec F S128x1 .f32) :
    k0_pay32 sel14 s w t (colFirst w) = addf (addf (addf (addf s t) (colTop (next w))) (colTop (next (next w)))) (colTop (next (next (next w)))) := rfl

theorem pay35_eq : k0_pay35 sel14 w (colTop w) = colFirst w := rfl
theorem pay38_eq : k0_pay38 sel14 w (colTop w) = colFirst (next w) := rfl
theorem pay41_eq : k0_pay41 sel14 w (colTop w) = colFirst (next (next w)) := rfl
theorem pay42_eq : k0_pay42 sel14 w (colTop w) = next (next (next w)) := rfl
theorem pay44_eq : k0_pay44 sel14 w (colTop w) = colFirst (next (next (next w))) := rfl
theorem pay45_eq (s : FVec F S128x1 .f32) :
    k0_pay45 sel14 s w (colTop w) = addf (addf (addf (addf s (colTop w)) (colTop (next w))) (colTop (next (next w)))) (colTop (next (next (next w)))) := rfl

theorem pay48_eq : k0_pay48 sel14 w (colFirst w) = colFirst (next w) := rfl
theorem pay51_eq : k0_pay51 sel14 w (colFirst w) = colFirst (next (next w)) := rfl
theorem pay54_eq : k0_pay54 sel14 w (colFirst w) = colFirst (next (next (next w))) := rfl
theorem pay56_eq : k0_pay56 sel14 w (colFirst w) = next (next (next (next w))) := rfl
theorem pay57_eq : k0_pay57 sel14 w (colFirst w) = colTop (next (next (next (next w)))) := rfl
theorem pay58_eq : k0_pay58 sel14 w (colFirst w) = broadcastTo S128x200 (colTop (next (next (next (next w))))) broadcasts_S128x1_S128x200 := rfl
theorem pay55_eq (s : FVec F S128x1 .f32) :
    k0_pay55 sel14 w (colFirst w) s = addf (addf (addf s (colTop (next w))) (colTop (next (next w)))) (colTop (next (next (next w)))) := rfl

/-- A row's greatest entry in every place of the row. -/
def spreadTop : FVec F S128x200 .f32 := broadcastTo S128x200 (colTop w) broadcasts_S128x1_S128x200

theorem pay68_eq (s t : FVec F S128x1 .f32) :
    k0_pay68 sel14 s w t (spreadTop w) = addf (addf (addf (addf s t) (colTop (next w))) (colTop (next (next w)))) (colTop (next (next (next w)))) := rfl
end

section
variable (z : Vec F S1x128x200 .f32)

theorem sel49_stage : sel49 z = colFirst (stage z 2) := by unfold sel49; rw [sel42_stage, sel41_stage, pay12_eq]
theorem sel62_stage : sel62 z = colFirst (stage z 3) := by unfold sel62; rw [sel42_stage, sel41_stage, pay15_eq]; rfl
theorem sel75_stage : sel75 z = colFirst (stage z 4) := by unfold sel75; rw [sel42_stage, sel41_stage, pay18_eq]; rfl
theorem sel80_stage : sel80 z = stage z 5 := by unfold sel80; rw [sel42_stage, sel41_stage, pay20_eq]; rfl
theorem sel82_stage : sel82 z = colTop (stage z 5) := by unfold sel82; rw [sel42_stage, sel41_stage, pay21_eq]; rfl
theorem sel88_stage : sel88 z = colFirst (stage z 5) := by unfold sel88; rw [sel42_stage, sel41_stage, pay22_eq]; rfl
theorem sel101_stage : sel101 z = colFirst (stage z 6) := by unfold sel101; rw [sel88_stage, sel80_stage, pay25_eq]; rfl
theorem sel114_stage : sel114 z = colFirst (stage z 7) := by unfold sel114; rw [sel88_stage, sel80_stage, pay28_eq]; rfl
theorem sel127_stage : sel127 z = colFirst (stage z 8) := by unfold sel127; rw [sel88_stage, sel80_stage, pay31_eq]; rfl
theorem sel132_stage : sel132 z = stage z 9 := by unfold sel132; rw [sel88_stage, sel80_stage, pay33_eq]; rfl
theorem sel134_stage : sel134 z = colTop (stage z 9) := by unfold sel134; rw [sel88_stage, sel80_stage, pay34_eq]; rfl
theorem sel140_stage : sel140 z = colFirst (stage z 9) := by unfold sel140; rw [sel134_stage, sel132_stage, pay35_eq]
theorem sel153_stage : sel153 z = colFirst (stage z 10) := by unfold sel153; rw [sel134_stage, sel132_stage, pay38_eq]; rfl
theorem sel166_stage : sel166 z = colFirst (stage z 11) := by unfold sel166; rw [sel134_stage, sel132_stage, pay41_eq]; rfl
theorem sel171_stage : sel171 z = stage z 12 := by unfold sel171; rw [sel134_stage, sel132_stage, pay42_eq]; rfl
theorem sel179_stage : sel179 z = colFirst (stage z 12) := by unfold sel179; rw [sel134_stage, sel132_stage, pay44_eq]; rfl
theorem sel192_stage : sel192 z = colFirst (stage z 13) := by unfold sel192; rw [sel179_stage, sel171_stage, pay48_eq]; rfl
theorem sel205_stage : sel205 z = colFirst (stage z 14) := by unfold sel205; rw [sel179_stage, sel171_stage, pay51_eq]; rfl
theorem sel218_stage : sel218 z = colFirst (stage z 15) := by unfold sel218; rw [sel179_stage, sel171_stage, pay54_eq]; rfl
theorem sel223_stage : sel223 z = stage z 16 := by unfold sel223; rw [sel179_stage, sel171_stage, pay56_eq]; rfl
theorem sel225_stage : sel225 z = colTop (stage z 16) := by unfold sel225; rw [sel179_stage, sel171_stage, pay57_eq]; rfl
theorem sel226_stage : sel226 z = spreadTop (stage z 16) := by unfold sel226; rw [sel179_stage, sel171_stage, pay58_eq]; rfl

/-- The running sum of the greatest entries of the first stages. -/
def sumTops : ℕ → FVec F S128x1 .f32
  | 0 => broadcast S128x1 (Scalar.ofBits .f32 0x00000000#32)
  | k + 1 => addf (sumTops k) (colTop (stage z k))

theorem sel37_sum : sel37 z = sumTops z 2 := rfl
theorem sel76_sum : sel76 z = sumTops z 5 := by unfold sel76; rw [sel42_stage, sel41_stage, sel37_sum, pay19_eq]; rfl
theorem sel128_sum : sel128 z = sumTops z 9 := by unfold sel128; rw [sel88_stage, sel80_stage, sel82_stage, sel76_sum, pay32_eq]; rfl
theorem sel180_sum : sel180 z = sumTops z 13 := by unfold sel180; rw [sel134_stage, sel132_stage, sel128_sum, pay45_eq]; rfl
theorem sel219_sum : sel219 z = sumTops z 16 := by unfold sel219; rw [sel179_stage, sel171_stage, sel180_sum, pay55_eq]; rfl
theorem sel271_sum : sel271 z = sumTops z 20 := by unfold sel271; rw [sel226_stage, sel225_stage, sel223_stage, sel219_sum, pay68_eq]; rfl

/-- Column `k` of the picked places is stage `k`'s. -/
theorem sel272_stage : sel272 z = concatenate S128x20 1 [⟨S128x1, colFirst (stage z 0)⟩, ⟨S128x1, colFirst (stage z 1)⟩, ⟨S128x1, colFirst (stage z 2)⟩, ⟨S128x1, colFirst (stage z 3)⟩, ⟨S128x1, colFirst (stage z 4)⟩, ⟨S128x1, colFirst (stage z 5)⟩, ⟨S128x1, colFirst (stage z 6)⟩, ⟨S128x1, colFirst (stage z 7)⟩, ⟨S128x1, colFirst (stage z 8)⟩, ⟨S128x1, colFirst (stage z 9)⟩, ⟨S128x1, colFirst (stage z 10)⟩, ⟨S128x1, colFirst (stage z 11)⟩, ⟨S128x1, colFirst (stage z 12)⟩, ⟨S128x1, colFirst (stage z 13)⟩, ⟨S128x1, colFirst (stage z 14)⟩, ⟨S128x1, colFirst (stage z 15)⟩, ⟨S128x1, colFirst (stage z 16)⟩, ⟨S128x1, colFirst (stage z 17)⟩, ⟨S128x1, colFirst (stage z 18)⟩, ⟨S128x1, colFirst (stage z 19)⟩] concatenates_S128x1_S128x1_S128x1_S128x1_S128x1_S128x1_S128x1_S128x1_S128x1_S128x1_S128x1_S128x1_S128x1_S128x1_S128x1_S128x1_S128x1_S128x1_S128x1_S128x1_S128x20_d1 := by
  unfold sel272
  rw [sel23_stage, sel36_stage, sel49_stage, sel62_stage, sel75_stage, sel88_stage, sel101_stage, sel114_stage, sel127_stage, sel140_stage, sel153_stage, sel166_stage, sel179_stage, sel192_stage, sel205_stage, sel218_stage, sel223_stage, sel226_stage]
  rfl
end

end Cert.KernelIdeal.Hand

end
-- ==== Proof.Picks.lean ====
/- Picking the greatest entries of a row one after another: at each step the greatest entry, the first of those that tie,
   is picked and overwritten by −1. On a row of nonnegative entries the picks are the row's entries in descending order, ties
   by position, which is the order of a stable descending sort; and sorting distinct numbers by counting, for each, those
   below it is sorting them. -/
module

public import Idealize.ShloMosaic.PureOps
public import Idealize.ShloMosaic.Lib.SortFacts
public import Mathlib.Data.EReal.Operations

@[expose] public section

noncomputable section

namespace Cert.Picks

open Idealize.ShloMosaic

/-- A row of two hundred extended reals. -/
abbrev Row := Fin 200 → EReal

/-- The greatest entry of a row. -/
def top (w : Row) : EReal := Finset.univ.sup w

theorem le_top (w : Row) (n : Fin 200) : w n ≤ top w := Finset.le_sup (f := w) (Finset.mem_univ n)

theorem top_attained (w : Row) : ∃ n, w n = top w := by
  obtain ⟨n, -, h⟩ := Finset.exists_mem_eq_sup Finset.univ ⟨(0 : Fin 200), Finset.mem_univ _⟩ w
  exact ⟨n, h.symm⟩

/-- The places of a row that hold its greatest entry. -/
def tops (w : Row) : Finset (Fin 200) := Finset.univ.filter fun n => w n = top w

theorem tops_nonempty (w : Row) : (tops w).Nonempty := by
  obtain ⟨n, h⟩ := top_attained w
  exact ⟨n, Finset.mem_filter.mpr ⟨Finset.mem_univ _, h⟩⟩

/-- The first place that holds the greatest entry. -/
def first (w : Row) : Fin 200 := (tops w).min' (tops_nonempty w)

theorem first_top (w : Row) : w (first w) = top w :=
  (Finset.mem_filter.mp ((tops w).min'_mem (tops_nonempty w))).2

theorem first_le (w : Row) (n : Fin 200) (h : w n = top w) : first w ≤ n :=
  (tops w).min'_le n (Finset.mem_filter.mpr ⟨Finset.mem_univ _, h⟩)

/-- The row with its first greatest entry overwritten by −1. -/
def strike (w : Row) : Row := fun n => if n = first w then -1 else w n

/-- The row after `k` picks. -/
def left (a : Row) : ℕ → Row
  | 0 => a
  | k + 1 => strike (left a k)

/-- The place of pick `k`. -/
def pick (a : Row) (k : ℕ) : Fin 200 := first (left a k)

theorem left_eq (a : Row) (k : ℕ) (n : Fin 200) :
    ((∃ i, i < k ∧ pick a i = n) → left a k n = -1) ∧ ((∀ i, i < k → pick a i ≠ n) → left a k n = a n) := by
  induction k with
  | zero => exact ⟨fun ⟨i, hi, _⟩ => absurd hi (Nat.not_lt_zero i), fun _ => rfl⟩
  | succ k ih =>
    refine ⟨?_, ?_⟩
    · rintro ⟨i, hi, e⟩
      show (if n = pick a k then (-1 : EReal) else left a k n) = -1
      split
      · rfl
      · rename_i hne
        refine ih.1 ⟨i, ?_, e⟩
        rcases Nat.lt_succ_iff_lt_or_eq.mp hi with h | rfl
        · exact h
        · exact absurd e.symm hne
    · intro h
      show (if n = pick a k then (-1 : EReal) else left a k n) = a n
      rw [if_neg (fun e => h k (Nat.lt_succ_self k) e.symm)]
      exact ih.2 fun i hi => h i (Nat.lt_succ_of_lt hi)

variable {a : Row} (ha : ∀ n, 0 ≤ a n)

theorem exists_unpicked (a : Row) (k : ℕ) (hk : k < 200) : ∃ n, ∀ i, i < k → pick a i ≠ n := by
  by_contra hc
  push Not at hc
  have hs : (Finset.univ : Finset (Fin 200)) ⊆ (Finset.range k).image (pick a) := fun n _ => by
    obtain ⟨i, hi, e⟩ := hc n
    exact Finset.mem_image.mpr ⟨i, Finset.mem_range.mpr hi, e⟩
  have h1 := Finset.card_le_card hs
  have h2 := Finset.card_image_le (s := Finset.range k) (f := pick a)
  simp only [Finset.card_univ, Fintype.card_fin, Finset.card_range] at h1 h2
  omega

include ha

theorem pick_new (k : ℕ) (hk : k < 200) (i : ℕ) (hi : i < k) : pick a i ≠ pick a k := by
  intro e
  have h1 : left a k (pick a k) = -1 := (left_eq a k _).1 ⟨i, hi, e⟩
  obtain ⟨n, hn⟩ := exists_unpicked a k hk
  have h2 : left a k n = a n := (left_eq a k n).2 hn
  have h3 : left a k n ≤ left a k (pick a k) := (le_top _ n).trans (first_top _).ge
  rw [h1, h2] at h3
  have h4 : (0 : EReal) ≤ -1 := (ha n).trans h3
  have h5 : ((-1 : ℝ) : EReal) < ((0 : ℝ) : EReal) := EReal.coe_lt_coe_iff.mpr (by norm_num)
  exact absurd h4 (by rw [not_le]; simpa using h5)

/-- The greatest entry at step `k` is the entry picked. -/
theorem top_left (k : ℕ) (hk : k < 200) : top (left a k) = a (pick a k) := by
  rw [← first_top (left a k)]
  exact (left_eq a k _).2 fun i hi => pick_new ha k hk i hi

/-- `i` comes before `j`: its entry is greater, or equal and earlier in the row. -/
def Before (a : Row) (i j : Fin 200) : Prop := a j < a i ∨ (a i = a j ∧ i < j)

omit ha in
theorem Before.asymm {a : Row} {i j : Fin 200} (h : Before a i j) (h' : Before a j i) : False := by
  rcases h with h | ⟨e, h⟩ <;> rcases h' with h' | ⟨e', h'⟩
  · exact lt_asymm h h'
  · exact absurd h (by rw [e']; exact lt_irrefl _)
  · exact absurd h' (by rw [e]; exact lt_irrefl _)
  · exact lt_asymm h h'

omit ha in
theorem Before.total (a : Row) (i j : Fin 200) : Before a i j ∨ i = j ∨ Before a j i := by
  rcases lt_trichotomy (a i) (a j) with h | h | h
  · exact .inr (.inr (.inl h))
  · rcases lt_trichotomy i j with g | g | g
    · exact .inl (.inr ⟨h, g⟩)
    · exact .inr (.inl g)
    · exact .inr (.inr (.inr ⟨h.symm, g⟩))
  · exact .inl (.inl h)

omit ha in
theorem Before.trans {a : Row} {i j k : Fin 200} (h : Before a i j) (h' : Before a j k) : Before a i k := by
  rcases h with h | ⟨e, h⟩ <;> rcases h' with h' | ⟨e', h'⟩
  · exact .inl (h'.trans h)
  · exact .inl (e' ▸ h)
  · exact .inl (e ▸ h')
  · exact .inr ⟨e.trans e', h.trans h'⟩

/-- A pick comes before everything not yet picked. -/
theorem pick_before (k : ℕ) (hk : k < 200) (j : Fin 200) (hj : ∀ i, i < k → pick a i ≠ j) (hne : pick a k ≠ j) :
    Before a (pick a k) j := by
  have h1 : left a k j = a j := (left_eq a k j).2 hj
  have h2 : a j ≤ a (pick a k) := by rw [← h1, ← top_left ha k hk]; exact le_top _ j
  rcases lt_or_eq_of_le h2 with h | h
  · exact .inl h
  · refine .inr ⟨h.symm, lt_of_le_of_ne ?_ hne⟩
    exact first_le _ j (by rw [h1, h, top_left ha k hk])

/-! ## The stable descending sort -/

/-- The order of the stable descending sort as a test. -/
def beforeTest (a : Row) (i j : Fin 200) : Bool := by classical exact decide (Before a i j)

omit ha in
theorem beforeTest_iff (a : Row) (i j : Fin 200) : beforeTest a i j = true ↔ Before a i j := by
  unfold beforeTest; simp

omit ha in
/-- On places in ascending order the sort by entry alone is the sort by entry and place: an insertion never passes an equal entry. -/
theorem stableSort_eq (a : Row) (R : Fin 200 → Fin 200 → Bool) (hR : ∀ i j, R i j = true ↔ a j < a i) (l : List (Fin 200))
    (hl : l.Pairwise (· < ·)) : stableSort R l = stableSort (beforeTest a) l := by
  induction l with
  | nil => rfl
  | cons x l ih =>
    rw [List.pairwise_cons] at hl
    unfold stableSort
    rw [ih hl.2]
    refine insertBefore_congr R (beforeTest a) x _ fun b hb => ?_
    have hb' : b ∈ l := (perm_stableSort (beforeTest a) l).mem_iff.mp hb
    have hxb := hl.1 b hb'
    rw [Bool.eq_iff_iff, hR, beforeTest_iff]
    refine ⟨.inl, ?_⟩
    rintro (h | ⟨_, h⟩)
    · exact h
    · exact absurd h (lt_asymm hxb)

omit ha in
theorem sortedFrom_of_list {n : ℕ} {R R' : Fin n → Fin n → Bool} (h : sortPositions n R = sortPositions n R') :
    sortedFrom R = sortedFrom R' := by
  funext k
  unfold sortedFrom
  rw [List.get_of_eq h]
  rfl

omit ha in
theorem sorted_before (a : Row) (R : Fin 200 → Fin 200 → Bool) (hR : ∀ i j, R i j = true ↔ a j < a i) (i j : Fin 200) (hij : i < j) :
    Before a (sortedFrom R i) (sortedFrom R j) := by
  have hs : sortedFrom R = sortedFrom (beforeTest a) := by
    exact sortedFrom_of_list (stableSort_eq a R hR _ (List.pairwise_lt_finRange 200))
  have h := sortedFrom_noInversion (beforeTest a) (beforeTest a)
    (fun x y h => by
      rw [beforeTest_iff] at h
      rw [← Bool.not_eq_true, beforeTest_iff]
      exact fun h' => h.asymm h')
    (fun _ _ h => h)
    (fun x y z h h' => by
      rw [← Bool.not_eq_true, beforeTest_iff] at h h' ⊢
      intro hxz
      rcases Before.total a x y with g | rfl | g
      · exact h g
      · exact h' hxz
      · rcases Before.total a y z with g' | rfl | g'
        · exact h' g'
        · exact h hxz
        · exact (g'.trans g).asymm hxz) i j hij
  rw [← Bool.not_eq_true, beforeTest_iff] at h
  rw [hs]
  rcases Before.total a (sortedFrom (beforeTest a) i) (sortedFrom (beforeTest a) j) with g | g | g
  · exact g
  · exact absurd (sortedFrom_injective _ g) hij.ne
  · exact absurd g h

/-- Pick `k` is the place the stable descending sort puts at `k`. -/
theorem sorted_eq_pick (R : Fin 200 → Fin 200 → Bool) (hR : ∀ i j, R i j = true ↔ a j < a i) (k : ℕ) (hk : k < 200) :
    sortedFrom R ⟨k, hk⟩ = pick a k := by
  induction k using Nat.strong_induction_on with
  | _ k ih =>
    obtain ⟨j, hj⟩ := sortedFrom_surjective R (pick a k)
    rcases lt_trichotomy j ⟨k, hk⟩ with h | h | h
    · have := ih j.val h j.isLt
      rw [Fin.eta, hj] at this
      exact absurd this.symm (pick_new ha k hk _ h)
    · rw [← h, hj]
    · have h1 := sorted_before a R hR ⟨k, hk⟩ j h
      rw [hj] at h1
      by_contra hne
      refine (pick_before ha k hk (sortedFrom R ⟨k, hk⟩) (fun i hi e => ?_) (fun e => hne e.symm)).asymm h1
      rw [← ih i hi (hi.trans hk)] at e
      exact absurd (congrArg Fin.val (sortedFrom_injective R e)) (ne_of_lt hi)

/-! ## Sorting by counting -/

omit ha in
/-- Of distinct numbers, the one the ascending sort puts at `r` is the one with exactly `r` below it. -/
theorem rank_sorted (p : Fin 20 → ℕ) (hp : Function.Injective p) (R : Fin 20 → Fin 20 → Bool)
    (hR : ∀ i j, R i j = true ↔ p i < p j) (k r : Fin 20) :
    (Finset.univ.filter fun j => p j < p k).card = r.val ↔ k = sortedFrom R r := by
  have hinv : ∀ i j : Fin 20, i < j → p (sortedFrom R i) < p (sortedFrom R j) := by
    intro i j hij
    have h := sortedFrom_noInversion R R
      (fun x y h => by rw [hR] at h; rw [← Bool.not_eq_true, hR]; omega) (fun _ _ h => h)
      (fun x y z h h' => by rw [← Bool.not_eq_true, hR] at h h' ⊢; omega) i j hij
    rw [← Bool.not_eq_true, hR, not_lt] at h
    exact lt_of_le_of_ne h fun e => absurd (sortedFrom_injective R (hp e)) hij.ne
  have hlt : ∀ i j : Fin 20, p (sortedFrom R i) < p (sortedFrom R j) ↔ i < j := by
    intro i j
    refine ⟨fun h => ?_, hinv i j⟩
    by_contra hc
    rcases lt_or_eq_of_le (not_lt.mp hc) with g | g
    · exact absurd (hinv j i g) (by omega)
    · rw [g] at h; omega
  have hcard : ∀ r : Fin 20, (Finset.univ.filter fun j => p j < p (sortedFrom R r)).card = r.val := by
    intro r
    have : (Finset.univ.filter fun j => p j < p (sortedFrom R r)) = (Finset.Iio r).map ⟨sortedFrom R, sortedFrom_injective R⟩ := by
      ext j
      obtain ⟨i, rfl⟩ := sortedFrom_surjective R j
      simp only [Finset.mem_filter, Finset.mem_univ, true_and, Finset.mem_map, Finset.mem_Iio, Function.Embedding.coeFn_mk]
      rw [hlt]
      exact ⟨fun h => ⟨i, h, rfl⟩, fun ⟨i', h, e⟩ => sortedFrom_injective R e ▸ h⟩
    rw [this, Finset.card_map, Fin.card_Iio]
  obtain ⟨i, rfl⟩ := sortedFrom_surjective R k
  rw [hcard]
  exact ⟨fun h => congrArg _ (Fin.ext h), fun h => congrArg Fin.val (sortedFrom_injective R h)⟩

end Cert.Picks

end
-- ==== Proof.Soft.lean ====
/- The softmax of a row of 200 scores over the extended reals, and where it is a real number. -/
module

public import proofs.«01_k».proof.Proof.Picks
public import Idealize.ShloMosaic.Lib.Pointwise

@[expose] public section

set_option maxRecDepth 16384

noncomputable section

namespace Cert.Picks

open Idealize.ShloMosaic

/-- The greatest entry as a fold from −∞. -/
theorem fold_top (w : Row) : Finset.fold max (Ideal.ofBits .f32 0xFF800000#32) (fun n => w n) Finset.univ = top w := by
  have h : Ideal.ofBits .f32 0xFF800000#32 = ⊥ := by simp [Ideal.ofBits, Ideal.ieee]
  rw [h]
  rfl

/-- The exponentials of a row, each less the row's greatest entry. -/
def expo (w : Row) : Row := fun n => Ideal.exp (w n - top w)

/-- The softmax of a row. -/
def soft (w : Row) : Row := fun n => Ideal.div (expo w n) (∑ k, expo w k)

variable {w : Row}

/-- With a real greatest entry every exponential is a real number, none is negative and none exceeds one. -/
theorem expo_real (hb : ⊥ < top w) (ht : top w < ⊤) (n : Fin 200) : ∃ r : ℝ, expo w n = (r : EReal) ∧ 0 ≤ r ∧ r ≤ 1 := by
  have hle := le_top w n
  unfold expo
  lift top w to ℝ using ⟨ht.ne, hb.ne'⟩ with m hm
  induction h : w n using EReal.rec with
  | bot => exact ⟨0, by rw [EReal.bot_sub]; simp, le_refl _, zero_le_one⟩
  | top => rw [h] at hle; exact absurd hle (not_le.mpr (EReal.coe_lt_top m))
  | coe x =>
    rw [h] at hle
    refine ⟨Real.exp (x - m), ?_, (Real.exp_pos _).le, ?_⟩
    · rw [← EReal.coe_sub]; rfl
    · have := EReal.coe_le_coe_iff.mp hle
      rw [← Real.exp_zero]; exact Real.exp_le_exp.mpr (by linarith)

/-- The exponentials of such a row add to a positive real number. -/
theorem sum_expo_real (hb : ⊥ < top w) (ht : top w < ⊤) : ∃ s : ℝ, (∑ k, expo w k) = (s : EReal) ∧ 0 < s := by
  choose e he h0 h1 using expo_real hb ht
  refine ⟨∑ k, e k, ?_, ?_⟩
  · rw [Finset.sum_congr rfl fun k _ => he k]
    exact (map_sum (⟨⟨fun x : ℝ => (x : EReal), rfl⟩, EReal.coe_add⟩ : ℝ →+ EReal) e Finset.univ).symm
  · obtain ⟨n, hn⟩ := top_attained w
    have : e n = 1 := by
      have h := he n
      unfold expo at h
      rw [hn] at h
      lift top w to ℝ using ⟨ht.ne, hb.ne'⟩ with m
      rw [← EReal.coe_sub, sub_self, Ideal.exp_coe, Real.exp_zero] at h
      exact (EReal.coe_eq_coe_iff.mp h).symm
    exact Finset.sum_pos' (fun k _ => h0 k) ⟨n, Finset.mem_univ n, by rw [this]; exact one_pos⟩

/-- The softmax of such a row is real and not negative. -/
theorem soft_real (hb : ⊥ < top w) (ht : top w < ⊤) (n : Fin 200) : ∃ r : ℝ, soft w n = (r : EReal) ∧ 0 ≤ r := by
  obtain ⟨e, he, h0, h1⟩ := expo_real hb ht n
  obtain ⟨s, hs, hp⟩ := sum_expo_real hb ht
  refine ⟨e * (1 / s), ?_, mul_nonneg h0 (by positivity)⟩
  unfold soft
  rw [he, hs, Ideal.div_coe hp.ne', EReal.coe_mul]

theorem soft_nonneg (hb : ⊥ < top w) (ht : top w < ⊤) (n : Fin 200) : 0 ≤ soft w n := by
  obtain ⟨r, hr, h⟩ := soft_real hb ht n
  rw [hr]; exact_mod_cast h

end Cert.Picks

end
-- ==== Proof.Spec.lean ====
/- The mathematics both programs compute, one row of the batch at a time: scores, picks of their softmax, the picks in
   ascending order, the identifiers and the probability. -/
module

public import proofs.«01_k».proof.Proof.Soft
public import Idealize.ShloMosaic.Lib.SortFacts

@[expose] public section

noncomputable section

namespace Cert.Picks

open Idealize.ShloMosaic

/-- The pick of a row as a number. -/
def pickNat (a : Row) (k : Fin 20) : ℕ := (pick a k.val).val

theorem pickNat_lt (a : Row) (k : Fin 20) : pickNat a k < 200 := (pick a k.val).isLt

/-- The picks of a row without a negative entry are distinct. -/
theorem pickNat_injective {a : Row} (ha : ∀ n, 0 ≤ a n) : Function.Injective (pickNat a) := by
  intro i j h
  have h' : pick a i.val = pick a j.val := Fin.ext h
  rcases lt_trichotomy i.val j.val with hlt | heq | hgt
  · exact absurd h' (pick_new ha j.val (by omega) i.val hlt)
  · exact Fin.ext heq
  · exact absurd h'.symm (pick_new ha i.val (by omega) j.val hgt)

/-- The test that puts the picks in ascending order. -/
def ascending (a : Row) (i j : Fin 20) : Bool := decide (pickNat a i < pickNat a j)

theorem ascending_iff (a : Row) (i j : Fin 20) : ascending a i j = true ↔ pickNat a i < pickNat a j := decide_eq_true_iff

/-- The picks in ascending order. -/
def inOrder (a : Row) (q : Fin 20) : ℕ := pickNat a (sortedFrom (ascending a) q)

theorem inOrder_lt (a : Row) (q : Fin 20) : inOrder a q < 200 := pickNat_lt a _

/-- The picked entries added up. -/
def total (a : Row) : EReal := ∑ k : Fin 20, a (pick a k.val)

theorem inOrder_eq (a : Row) (q : Fin 20) : inOrder a q = (pick a (sortedFrom (ascending a) q).val).val := by
  unfold inOrder
  exact (show ∀ k, pickNat a k = (pick a k.val).val from fun k => by unfold pickNat; with_reducible rfl) _

theorem place_of_val (n : ℕ) (h : n < 200) (p : Fin 200) (e : n = p.val) : (⟨n, h⟩ : Fin 200) = p := Fin.ext e

theorem inOrder_place (a : Row) (q : Fin 20) : (⟨inOrder a q, inOrder_lt a q⟩ : Fin 200) = pick a (sortedFrom (ascending a) q).val := by
  refine place_of_val _ _ _ ?_
  exact inOrder_eq a q

/-- The picked entries add up the same in ascending order of their places. -/
theorem total_inOrder (a : Row) : (∑ q : Fin 20, a ⟨inOrder a q, inOrder_lt a q⟩) = total a := by
  have hbij : Function.Bijective (sortedFrom (ascending a)) := ⟨sortedFrom_injective _, sortedFrom_surjective _⟩
  simp only [inOrder_place]
  exact hbij.sum_comp (fun k : Fin 20 => a (pick a k.val))

/-- A real factor goes through a sum of real numbers. -/
theorem sum_mul_real (f : Fin 20 → EReal) (hf : ∀ k, ∃ r : ℝ, f k = (r : EReal)) (z : BitVec 32) :
    (∑ k, f k) * FloatOps.sitofp (F := Ideal) .f32 z = ∑ k, f k * FloatOps.sitofp (F := Ideal) .f32 z := by
  choose g hg using hf
  have hsum : ∀ h : Fin 20 → ℝ, (∑ k, (h k : EReal)) = ((∑ k, h k : ℝ) : EReal) := fun h =>
    (map_sum (⟨⟨fun x : ℝ => (x : EReal), rfl⟩, EReal.coe_add⟩ : ℝ →+ EReal) h Finset.univ).symm
  have hz : FloatOps.sitofp (F := Ideal) .f32 z = ((z.toInt : ℝ) : EReal) := rfl
  simp only [hg, hz, hsum, ← EReal.coe_mul, Finset.sum_mul]

/-- The scores of one row: `x` its neighbours, `sg` its subgraph vector, `wa` and `wb` the two halves of the last layer. -/
def scores (x : Fin 200 → Fin 128 → EReal) (sg : Fin 256 → EReal) (mask : Fin 200 → EReal) (W : Fin 256 → Fin 128 → EReal)
    (b wa wb : Fin 256 → EReal) (bn : EReal) : Row := fun n =>
  Ideal.logistic ((∑ h, wa h * (∑ e, W h e * x n e + b h)) + (∑ h, sg h * wb h) + bn) + mask n

/-- The logistic function lies between zero and one. -/
theorem logistic_range (z : EReal) : 0 ≤ Ideal.logistic z ∧ Ideal.logistic z ≤ 1 := by
  induction z using EReal.rec with
  | bot => simp
  | top => simp
  | coe x =>
    have h := Real.exp_pos (-x)
    rw [Ideal.logistic_coe]
    constructor
    · exact_mod_cast inv_nonneg.mpr (by linarith)
    · exact_mod_cast inv_le_one_of_one_le₀ (by linarith)

/-- A row of scores has a real greatest entry when its mask has one. -/
theorem top_scores (x : Fin 200 → Fin 128 → EReal) (sg : Fin 256 → EReal) (mask : Fin 200 → EReal) (W : Fin 256 → Fin 128 → EReal)
    (b wa wb : Fin 256 → EReal) (bn : EReal) (hb : ⊥ < top mask) (ht : top mask < ⊤) :
    ⊥ < top (scores x sg mask W b wa wb bn) ∧ top (scores x sg mask W b wa wb bn) < ⊤ := by
  constructor
  · obtain ⟨n, hn⟩ := top_attained mask
    refine lt_of_lt_of_le (lt_of_lt_of_eq hb hn.symm) (le_trans ?_ (le_top _ n))
    exact le_add_of_nonneg_left (logistic_range _).1
  · obtain ⟨n, hn⟩ := top_attained (scores x sg mask W b wa wb bn)
    rw [← hn]
    refine lt_of_le_of_lt (add_le_add (logistic_range _).2 (le_top mask n)) ?_
    exact EReal.add_lt_top (by exact_mod_cast EReal.coe_ne_top 1) ht.ne

end Cert.Picks

end
-- ==== Proof.KernelSelect.lean ====
/- The selection of the idealized kernel, row by row: what the blocks of picked places and of probabilities hold at an
   index, in terms of the picks of the softmax of a row of scores. -/
module

public import proofs.«01_k».proof.Proof.Stages
public import proofs.«01_k».proof.Proof.Spec
public import Idealize.ShloMosaic.Lib.SortNet.Extract

@[expose] public section

set_option maxRecDepth 16384

noncomputable section

namespace Cert.KernelIdeal.Hand

open Idealize.ShloMosaic Idealize.ShloMosaic.TcCoe Cert.KernelIdeal.Gen

/-- Row `r` of a block. -/
def rowOf (w : FVec Ideal S128x200 .f32) (r : Fin 128) : Picks.Row := fun n => w (ix2 r n)

theorem rowTop_at (w : FVec Ideal S128x200 .f32) (r : Fin 128) : rowTop w (ix1 r) = Picks.top (rowOf w r) := by
  pointwise [rowTop]
  exact Picks.fold_top (rowOf w r)

theorem colTop_at (w : FVec Ideal S128x200 .f32) (r : Fin 128) (c : Fin 1) : colTop w (ix2 r c) = Picks.top (rowOf w r) := by
  rw [← rowTop_at]
  pointwise [colTop]

/-- A place in a row as a word, in integers. -/
theorem toInt_place (n : ℕ) (h : n < 1000) : (BitVec.ofNat 32 n).toInt = n := by
  rw [BitVec.toInt_eq_toNat_of_lt] <;> simp only [BitVec.toNat_ofNat] <;> omega

/-- Two places are one word just when they are one place. -/
theorem place_eq (a b : ℕ) (ha : a < 1000) (hb : b < 1000) : BitVec.ofNat 32 a = BitVec.ofNat 32 b ↔ a = b := by
  constructor
  · intro h
    have := congrArg BitVec.toInt h
    rw [toInt_place _ ha, toInt_place _ hb] at this
    exact_mod_cast this
  · rintro rfl; rfl

/-- The signed comparison of two places. -/
theorem place_slt (a b : ℕ) (ha : a < 1000) (hb : b < 1000) :
    IntOp.cmpi .slt (BitVec.ofNat 32 a) (BitVec.ofNat 32 b) = BitVec.ofBool (decide (a < b)) := by
  refine congrArg BitVec.ofBool ?_
  simp only [BitVec.slt, toInt_place _ ha, toInt_place _ hb, Nat.cast_lt]

/-- The least place among those that hold the greatest entry, as a fold of the signed minimum. -/
theorem fold_first (w : Picks.Row) :
    Finset.fold IntOp.minsi (2147483647#32) (fun x : Fin 200 => if w x = Picks.top w then BitVec.ofNat 32 x.val else 200#32) Finset.univ
      = BitVec.ofNat 32 (Picks.first w).val := by
  have h200 : (200#32 : BitVec 32).toInt = 200 := by decide
  have hbig : (2147483647#32 : BitVec 32).toInt = 2147483647 := by decide
  have hp := (Picks.first w).isLt
  apply BitVec.eq_of_toInt_eq
  rw [← Finset.fold_hom (op := IntOp.minsi) (op' := min) (m := BitVec.toInt) (fun a b => SortNet.toInt_minsi a b), toInt_place (Picks.first w).val (by omega), hbig]
  apply le_antisymm
  · refine (Finset.fold_min_le _).mpr (.inr ⟨Picks.first w, Finset.mem_univ _, ?_⟩)
    rw [if_pos (Picks.first_top w), toInt_place _ (by omega)]
  · refine (Finset.le_fold_min _).mpr ⟨by omega, fun x _ => ?_⟩
    split
    · next h => rw [toInt_place _ (by omega)]; exact_mod_cast Picks.first_le w x h
    · rw [h200]; omega

/-- A sum of numbers, as the fold of the word sums. -/
theorem fold_addi {ι : Type} [DecidableEq ι] (s : Finset ι) (f : ι → ℕ) :
    Finset.fold IntOp.addi (0#32) (fun x => BitVec.ofNat 32 (f x)) s = BitVec.ofNat 32 (∑ x ∈ s, f x) := by
  induction s using Finset.induction_on with
  | empty => rfl
  | insert a s ha ih =>
    rw [Finset.fold_insert ha, ih, Finset.sum_insert ha, BitVec.ofNat_add]
    rfl

/-- Twenty distinct places put in order by rank: the place whose rank is `q`, found as a sum over all of them. -/
theorem ranked (p : Fin 20 → ℕ) (hp : Function.Injective p) (hlt : ∀ k, p k < 1000) (R : Fin 20 → Fin 20 → Bool)
    (hR : ∀ i j, R i j = true ↔ p i < p j) (q : Fin 20) :
    Finset.fold IntOp.addi (0#32) (fun x : Fin 20 =>
        Scalar.select (IntOp.cmpi .eq
          (Finset.fold IntOp.addi (0#32) (fun y : Fin 20 => BitVec.setWidth 32 (IntOp.cmpi .slt (BitVec.ofNat 32 (p y)) (BitVec.ofNat 32 (p x)))) Finset.univ)
          (BitVec.ofNat 32 q.val)) (BitVec.ofNat 32 (p x)) 0#32) Finset.univ
      = BitVec.ofNat 32 (p (sortedFrom R q)) := by
  have hcount : ∀ x, Finset.fold IntOp.addi (0#32) (fun y : Fin 20 => BitVec.setWidth 32 (IntOp.cmpi .slt (BitVec.ofNat 32 (p y)) (BitVec.ofNat 32 (p x)))) Finset.univ
      = BitVec.ofNat 32 (Finset.univ.filter fun y => p y < p x).card := by
    intro x
    rw [Finset.card_filter]
    have hf : (fun y : Fin 20 => BitVec.setWidth 32 (IntOp.cmpi .slt (BitVec.ofNat 32 (p y)) (BitVec.ofNat 32 (p x)))) = fun y => BitVec.ofNat 32 (if p y < p x then 1 else 0) := by
      funext y
      rw [place_slt _ _ (hlt y) (hlt x)]
      by_cases h : p y < p x
      · simp [h]
      · simp [h]
    rw [hf]
    exact fold_addi _ _
  have hcard : ∀ x, (Finset.univ.filter fun y => p y < p x).card < 1000 := fun x =>
    lt_of_le_of_lt (Finset.card_le_univ _) (by simp)
  have hsel : (fun x : Fin 20 => Scalar.select (IntOp.cmpi .eq
          (Finset.fold IntOp.addi (0#32) (fun y : Fin 20 => BitVec.setWidth 32 (IntOp.cmpi .slt (BitVec.ofNat 32 (p y)) (BitVec.ofNat 32 (p x)))) Finset.univ)
          (BitVec.ofNat 32 q.val)) (BitVec.ofNat 32 (p x)) 0#32) = fun x => BitVec.ofNat 32 (if x = sortedFrom R q then p x else 0) := by
    funext x
    rw [hcount]
    have hiff := Picks.rank_sorted p hp R hR x q
    have hc : IntOp.cmpi .eq (BitVec.ofNat 32 (Finset.univ.filter fun y => p y < p x).card) (BitVec.ofNat 32 q.val) = BitVec.ofBool (decide (x = sortedFrom R q)) := by
      refine congrArg BitVec.ofBool ?_
      rw [Bool.eq_iff_iff, beq_iff_eq, place_eq _ _ (hcard x) (by omega), decide_eq_true_iff]
      exact hiff
    rw [hc]
    by_cases h : x = sortedFrom R q <;> simp [h, Scalar.select]
  rw [hsel, fold_addi, Finset.sum_ite_eq' (Finset.univ : Finset (Fin 20)) (sortedFrom R q) p, if_pos (Finset.mem_univ _)]

theorem colFirst_at (w : FVec Ideal S128x200 .f32) (r : Fin 128) (c : Fin 1) : colFirst w (ix2 r c) = BitVec.ofNat 32 (Picks.first (rowOf w r)).val := by
  pointwise [colFirst, placeOf, sel14, colTop_at]
  exact fold_first (rowOf w r)

/-- The word −1.0 is the number −1. -/
theorem ofBits_neg_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]; norm_num

theorem strikeAt_at (w : FVec Ideal S128x200 .f32) (r : Fin 128) : rowOf (strikeAt (colFirst w) w) r = Picks.strike (rowOf w r) := by
  funext n
  show strikeAt (colFirst w) w (ix2 r n) = if n = Picks.first (rowOf w r) then -1 else w (ix2 r n)
  pointwise [strikeAt, sel14, colFirst_at]
  rw [ofBits_neg_one]
  have hc : IntOp.cmpi .eq (BitVec.ofNat 32 n.val) (BitVec.ofNat 32 (Picks.first (rowOf w r)).val) = BitVec.ofBool (decide (n = Picks.first (rowOf w r))) := by
    refine congrArg BitVec.ofBool ?_
    rw [Bool.eq_iff_iff, beq_iff_eq, place_eq _ _ (by omega) (by omega), decide_eq_true_iff]
    exact Fin.val_inj
  rw [hc]
  by_cases h : n = Picks.first (rowOf w r) <;> simp [h, Scalar.select]

/-- The scores of row `r` of a block of scores. -/
def scoreRow (z : Vec Ideal S1x128x200 .f32) (r : Fin 128) : Picks.Row := fun n => z (ix3 0 r n)

theorem stage_zero_at (z : Vec Ideal S1x128x200 .f32) (r : Fin 128) : rowOf (stage z 0) r = Picks.soft (scoreRow z r) := by
  funext n
  unfold rowOf
  pointwise [stage, k0_pay2]
  have h := Picks.fold_top (scoreRow z r)
  unfold scoreRow at h
  rw [h]
  rfl

theorem stage_at (z : Vec Ideal S1x128x200 .f32) (r : Fin 128) (k : ℕ) : rowOf (stage z k) r = Picks.left (Picks.soft (scoreRow z r)) k := by
  induction k with
  | zero => exact stage_zero_at z r
  | succ k ih => rw [stage, strikeAt_at, ih]; rfl

theorem colFirst_stage_at (z : Vec Ideal S1x128x200 .f32) (r : Fin 128) (c : Fin 1) (k : ℕ) :
    colFirst (stage z k) (ix2 r c) = BitVec.ofNat 32 (Picks.pick (Picks.soft (scoreRow z r)) k).val := by
  rw [colFirst_at, stage_at]; rfl

/-- Column `k` of the picked places at row `r`. -/
theorem sel272_at (z : Vec Ideal S1x128x200 .f32) (r : Fin 128) (k : Fin 20) :
    sel272 z (ix2 r k) = BitVec.ofNat 32 (Picks.pick (Picks.soft (scoreRow z r)) k.val).val := by
  rw [sel272_stage]
  fin_cases k <;> pointwise [colFirst_stage_at]

/-- The block of identifiers at row `r`: the row's picks in ascending order, moved by the row's offset. -/
theorem idBlock_at (z : Vec Ideal S1x128x200 .f32) (sub : Vec Ideal S128x1 .i32) (r : Fin 128) (q : Fin 20)
    (hb : ⊥ < Picks.top (scoreRow z r)) (ht : Picks.top (scoreRow z r) < ⊤) :
    idBlock z sub (ix2 r q) = BitVec.ofNat 32 (Picks.inOrder (Picks.soft (scoreRow z r)) q) + sub (ix2 r 0) := by
  unfold Picks.inOrder
  rw [← ranked _ (Picks.pickNat_injective (Picks.soft_nonneg hb ht)) (fun k => lt_trans (Picks.pickNat_lt _ k) (by omega)) _ (Picks.ascending_iff _) q]
  pointwise [idBlock, k0_pay70, sel272_at]
  rfl

theorem sumTops_at (z : Vec Ideal S1x128x200 .f32) (r : Fin 128) (k : ℕ) :
    sumTops z k (ix2 r 0) = ∑ i ∈ Finset.range k, Picks.top (Picks.left (Picks.soft (scoreRow z r)) i) := by
  induction k with
  | zero => pointwise [sumTops]; rw [Finset.sum_range_zero]
  | succ k ih =>
    rw [Finset.sum_range_succ, ← ih, ← stage_at, ← colTop_at (stage z k) r 0]
    rfl

/-- The named constant is one twentieth. -/
theorem inv_k_eq : Named.named (F := Ideal) κ "inv_k" (φ := .f32) 0x3D4CCCCD#32 = ((1 / 20 : ℝ) : EReal) := rfl

/-- The block of probabilities at row `r`: the picked entries' sum times the row's count, times one twentieth. -/
theorem probBlock_at (z : Vec Ideal S1x128x200 .f32) (num : Vec Ideal S128x1 .i32) (r : Fin 128)
    (hb : ⊥ < Picks.top (scoreRow z r)) (ht : Picks.top (scoreRow z r) < ⊤) :
    probBlock z num (ix2 r 0) = Picks.total (Picks.soft (scoreRow z r)) * FloatOps.sitofp .f32 (num (ix2 r 0)) * ((1 / 20 : ℝ) : EReal) := by
  unfold probBlock
  rw [sel271_sum]
  pointwise [k0_pay71, sumTops_at]
  rw [inv_k_eq, ← Fin.sum_univ_eq_sum_range (fun i => Picks.top (Picks.left (Picks.soft (scoreRow z r)) i)) 20]
  rw [Finset.sum_congr rfl fun k _ => Picks.top_left (Picks.soft_nonneg hb ht) k.val (by omega)]
  rfl

end Cert.KernelIdeal.Hand

end
-- ==== Proof.KernelScore.lean ====
/- The score phase of the idealized kernel: what the block of scores holds at an index. -/
module

public import proofs.«01_k».proof.Proof.IdealCode
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe Cert.KernelIdeal.Gen

/-- The neighbour half of the linear score at flat row `p` of a block: the second layer's weights on the first layer's values. -/
def linAt (x : Vec Ideal S128x200x128 .f32) (W : Vec Ideal S256x128 .f32) (b wa : Vec Ideal S1x256 .f32) (p : Fin 25600) : EReal :=
  ∑ h : Fin 256, wa (ix2 0 h) * (∑ e : Fin 128, W (ix2 h e) * x (ix3 ⟨p.val / 200, by omega⟩ ⟨p.val % 200, by omega⟩ e) + b (ix2 0 h))

section
variable (x : Vec Ideal S128x200x128 .f32) (W : Vec Ideal S256x128 .f32) (b wa wb : Vec Ideal S1x256 .f32)

theorem flat_at (p : Fin 25600) (e : Fin 128) : k0_pay72 x (ix2 p e) = x (ix3 ⟨p.val / 200, by omega⟩ ⟨p.val % 200, by omega⟩ e) := by
  pointwise [k0_pay72]

theorem chunk0_at (j : Fin 6400) : k0_pay76 (k0_pay72 x) (k0_pay73 W) (k0_pay74 wa) b (ix2 0 j) = linAt x W b wa ⟨0 + j.val, by omega⟩ := by
  unfold linAt
  pointwise [k0_pay76, flat_at, k0_pay73, k0_pay74, k0_pay75]

theorem chunk1_at (j : Fin 6400) : k0_pay109 (k0_pay72 x) (k0_pay73 W) (k0_pay74 wa) b (ix2 0 j) = linAt x W b wa ⟨6400 + j.val, by omega⟩ := by
  unfold linAt
  pointwise [k0_pay109, flat_at, k0_pay73, k0_pay74, k0_pay75]

theorem chunk2_at (j : Fin 6400) : k0_pay142 (k0_pay72 x) (k0_pay73 W) (k0_pay74 wa) (k0_pay75 b) (ix2 0 j) = linAt x W b wa ⟨12800 + j.val, by omega⟩ := by
  unfold linAt
  pointwise [k0_pay142, flat_at, k0_pay73, k0_pay74, k0_pay75]

/-- The last chunk of flat rows. -/
def chunk3 : FVec Ideal S1x6400 .f32 :=
  extractStridedSlice S1x6400 ![0, 0] (matmul dot_S8x256_S256x6400_S8x6400_1_0_0_1_n_n none (k0_pay74 wa) (truncf .bf16 (addf (matmul dot_S256x128_S6400x128_S256x6400_1_1_0_0_n_n none (k0_pay73 W) (extractStridedSlice S6400x128 ![19200, 0] (k0_pay72 x) slices_S25600x128_o19200_0_S6400x128) (constant S256x6400 .f32 0x00000000#32)) (broadcastTo S256x6400 (k0_pay75 b) broadcasts_S256x1_S256x6400)) bitsLt_bf16_f32) (constant S8x6400 .f32 0x00000000#32)) slices_S8x6400_o0_0_S1x6400

theorem chunk3_at (j : Fin 6400) : chunk3 x W b wa (ix2 0 j) = linAt x W b wa ⟨19200 + j.val, by omega⟩ := by
  unfold linAt
  pointwise [chunk3, flat_at, k0_pay73, k0_pay74, k0_pay75]

/-- A row of the block cut out of a chunk: the slice at offset `o` of a chunk that holds the flat rows from `c` on, where
    row `k` starts at flat row `c + o`. -/
theorem row_of_chunk {v : FVec Ideal S1x6400 .f32} {c : ℕ} {hc : ∀ j : Fin 6400, c + j.val < 25600}
    (hv : ∀ j : Fin 6400, v (ix2 0 j) = linAt x W b wa ⟨c + j.val, hc j⟩) {o k : ℕ} (hs : S1x6400.Slices ![0, o] S1x200)
    {r : Fin 128} {n : Fin 200} {i : S1x200.Idx} (h : r.val = k) (h0 : (i 0).val = 0) (h1 : (i 1).val = n.val)
    (ho : o + 200 ≤ 6400) (hk : c + o = 200 * k) :
    extractStridedSlice S1x200 ![0, o] v hs i = linAt x W b wa ⟨200 * r.val + n.val, by omega⟩ := by
  refine (congrArg v (a₂ := ix2 0 ⟨o + n.val, by omega⟩) ?_).trans ((hv _).trans ?_)
  · funext a
    match a with
    | ⟨0, _⟩ => exact Fin.ext (by show 0 + (i 0).val = 0; omega)
    | ⟨1, _⟩ => exact Fin.ext (by show o + (i 1).val = o + n.val; omega)
  · exact congrArg (linAt x W b wa) (Fin.ext (by dsimp only; omega))

/-- The 128 rows put together, 32 from each chunk. -/
theorem sco468_at (r : Fin 128) (n : Fin 200) : sco468 x W b wa (ix2 r n) = linAt x W b wa ⟨200 * r.val + n.val, by omega⟩ := by
  unfold sco468 k0_pay168
  concat_tiles i h
  iterate 32 exact row_of_chunk x W b wa (chunk0_at x W b wa) (by decide) h h0 h1 (by omega) (by omega)
  iterate 32 exact row_of_chunk x W b wa (chunk1_at x W b wa) (by decide) h h0 h1 (by omega) (by omega)
  iterate 32 exact row_of_chunk x W b wa (chunk2_at x W b wa) (by decide) h h0 h1 (by omega) (by omega)
  iterate 32 exact row_of_chunk x W b wa (chunk3_at x W b wa) (by decide) h h0 h1 (by omega) (by omega)

/-- The subgraph half of the linear score at row `r`. -/
theorem sub_half_at (sg : Vec Ideal S128x256 .f32) (r : Fin 128) (n : Fin 200) :
    k0_pay169 wb sg (ix2 r n) = ∑ h : Fin 256, sg (ix2 r h) * wb (ix2 0 h) := by
  pointwise [k0_pay169]

/-- The block of scores at row `r`, neighbour `n`. -/
theorem scoreBlock_at (sg : Vec Ideal S128x256 .f32) (mask : Vec Ideal S128x200 .f32) (bn : Vec Ideal S1x1 .f32) (r : Fin 128) (n : Fin 200) :
    scoreBlock x sg mask W b wa wb bn (ix3 0 r n)
      = Ideal.logistic ((∑ h : Fin 256, wa (ix2 0 h) * (∑ e : Fin 128, W (ix2 h e) * x (ix3 r n e) + b (ix2 0 h))) + (∑ h : Fin 256, sg (ix2 r h) * wb (ix2 0 h)) + bn (ix2 0 0)) + mask (ix2 r n) := by
  have hl : linAt x W b wa ⟨200 * r.val + n.val, by omega⟩ = ∑ h : Fin 256, wa (ix2 0 h) * (∑ e : Fin 128, W (ix2 h e) * x (ix3 r n e) + b (ix2 0 h)) := by
    unfold linAt
    have h1 : (⟨(200 * r.val + n.val) / 200, by omega⟩ : Fin 128) = r := Fin.ext (by dsimp only; omega)
    have h2 : (⟨(200 * r.val + n.val) % 200, by omega⟩ : Fin 200) = n := Fin.ext (by dsimp only; omega)
    dsimp only
    rw [h1, h2]
  rw [← hl]
  pointwise [scoreBlock, k0_pay1, sco468_at, sub_half_at]

end

end Cert.KernelIdeal.Hand

end
-- ==== Proof.KernelValue.lean ====
/- What the two result arrays of the idealized kernel hold, in terms of its argument arrays. -/
module

public import proofs.«01_k».proof.Proof.IdealFrame
public import proofs.«01_k».proof.Proof.KernelSelect
public import proofs.«01_k».proof.Proof.KernelScore
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic Cert.KernelIdeal.Gen
open Idealize.ShloMosaic.Pipeline (Dat Cfg Window)

variable (m : (ℓ : Loc nD τ sig) → Buf (Elt Ideal) ℓ)

/-- The scores of row `r` of the batch. -/
def batchScores (c : Dev nD) (r : Fin 1024) : Picks.Row :=
  Picks.scores (fun n e => (m ((c.tc : Thread nD τ).loc main_arg2) : FVec Ideal S1024x200x128 .f32) (ix3 r n e))
    (fun h => (m ((c.tc : Thread nD τ).loc main_arg1) : FVec Ideal S1024x256 .f32) (ix2 r h))
    (fun n => (m ((c.tc : Thread nD τ).loc main_arg4) : FVec Ideal S1024x200 .f32) (ix2 r n))
    (fun h e => (m ((c.tc : Thread nD τ).loc main_arg7) : FVec Ideal S256x128 .f32) (ix2 h e))
    (fun h => (m ((c.tc : Thread nD τ).loc main_arg8) : FVec Ideal S256 .f32) (ix1 h))
    (fun h => (m ((c.tc : Thread nD τ).loc main_arg9) : FVec Ideal S1x512 .f32) (ix2 0 ⟨h.val, by omega⟩))
    (fun h => (m ((c.tc : Thread nD τ).loc main_arg9) : FVec Ideal S1x512 .f32) (ix2 0 ⟨256 + h.val, by omega⟩))
    ((m ((c.tc : Thread nD τ).loc main_arg10) : FVec Ideal S1 .f32) (ix1 0))

/-! ### The blocks at coordinates -/

theorem idx0 : ∀ t : Fin cfg0.N, t.val < 8 → win0_0.index t = ![t.val, 0, 0] := (by decide +kernel : ∀ t : Fin grid0.N, t.val < 8 → win0_0.index t = ![t.val, 0, 0])
theorem idx1 : ∀ t : Fin cfg0.N, t.val < 8 → win0_1.index t = ![t.val, 0] := (by decide +kernel : ∀ t : Fin grid0.N, t.val < 8 → win0_1.index t = ![t.val, 0])
theorem idx2 : ∀ t : Fin cfg0.N, t.val < 8 → win0_2.index t = ![t.val, 0] := (by decide +kernel : ∀ t : Fin grid0.N, t.val < 8 → win0_2.index t = ![t.val, 0])
theorem idx3 : ∀ t : Fin cfg0.N, win0_3.index t = ![t.val - 1, 0] := (by decide +kernel : ∀ t : Fin grid0.N, win0_3.index t = ![t.val - 1, 0])
theorem idx4 : ∀ t : Fin cfg0.N, win0_4.index t = ![t.val - 1, 0] := (by decide +kernel : ∀ t : Fin grid0.N, win0_4.index t = ![t.val - 1, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![t.val - 1, 0] := (by decide +kernel : ∀ t : Fin grid0.N, win0_9.index t = ![t.val - 1, 0])
theorem idx10 : ∀ t : Fin cfg0.N, win0_10.index t = ![t.val - 1, 0] := (by decide +kernel : ∀ t : Fin grid0.N, win0_10.index t = ![t.val - 1, 0])
/-- The results' blocks are written back from the second point on. -/
theorem flush9 : ∀ t : Fin cfg0.N, (cfg0.win 9).flush t = true → 0 < t.val := (by decide +kernel : ∀ t : Fin grid0.N, (cfg0.win 9).flush t = true → 0 < t.val)
theorem flush10 : ∀ t : Fin cfg0.N, (cfg0.win 10).flush t = true → 0 < t.val := (by decide +kernel : ∀ t : Fin grid0.N, (cfg0.win 10).flush t = true → 0 < t.val)

/-- There are nine points. -/
theorem le_eight (t : Fin cfg0.N) : t.val ≤ 8 := (by decide +kernel : ∀ t : Fin grid0.N, t.val ≤ 8) t

variable (c : Dev nD) (t : Fin cfg0.N)

theorem blk0_at (ht : t.val < 8) (r : Fin 128) (n : Fin 200) (e : Fin 128) :
    (iblk m c 0 t : FVec Ideal S128x200x128 .f32) (ix3 r n e) = (m ((c.tc : Thread nD τ).loc main_arg2) : FVec Ideal S1024x200x128 .f32) (ix3 ⟨128 * t.val + r.val, by omega⟩ n e) := by
  blk_ext [iblk, V, idx0 t ht]
theorem blk1_at (ht : t.val < 8) (r : Fin 128) (h : Fin 256) :
    (iblk m c 1 t : FVec Ideal S128x256 .f32) (ix2 r h) = (m ((c.tc : Thread nD τ).loc main_arg1) : FVec Ideal S1024x256 .f32) (ix2 ⟨128 * t.val + r.val, by omega⟩ h) := by
  blk_ext [iblk, V, idx1 t ht]
theorem blk2_at (ht : t.val < 8) (r : Fin 128) (n : Fin 200) :
    (iblk m c 2 t : FVec Ideal S128x200 .f32) (ix2 r n) = (m ((c.tc : Thread nD τ).loc main_arg4) : FVec Ideal S1024x200 .f32) (ix2 ⟨128 * t.val + r.val, by omega⟩ n) := by
  blk_ext [iblk, V, idx2 t ht]
theorem blk5_at (h : Fin 256) (e : Fin 128) :
    (iblk m c 5 t : FVec Ideal S256x128 .f32) (ix2 h e) = (m ((c.tc : Thread nD τ).loc main_arg7) : FVec Ideal S256x128 .f32) (ix2 h e) := by
  blk_ext [iblk, V, idx5 t]
theorem blk6_at (h : Fin 256) :
    (iblk m c 6 t : FVec Ideal S1x256 .f32) (ix2 0 h) = (m ((c.tc : Thread nD τ).loc main_arg8) : FVec Ideal S256 .f32) (ix1 h) := by
  blk_ext! [iblk, V, idx6 t]
theorem blk7_at (h : Fin 512) :
    (iblk m c 7 t : FVec Ideal S1x512 .f32) (ix2 0 h) = (m ((c.tc : Thread nD τ).loc main_arg9) : FVec Ideal S1x512 .f32) (ix2 0 h) := by
  blk_ext [iblk, V, idx7 t]
theorem blk8_at :
    (iblk m c 8 t : FVec Ideal S1x1 .f32) (ix2 0 0) = (m ((c.tc : Thread nD τ).loc main_arg10) : FVec Ideal S1 .f32) (ix1 0) := by
  blk_ext! [iblk, V, idx8 t]
theorem blk3_at (ht : 0 < t.val) (r : Fin 128) :
    (iblk m c 3 t : IVec S128x1 32) (ix2 r 0) = (m ((c.tc : Thread nD τ).loc main_arg5) : IVec S1024x1 32) (ix2 ⟨128 * (t.val - 1) + r.val, by have := le_eight t; omega⟩ 0) := by
  blk_ext [iblk, V, idx3 t]
theorem blk4_at (ht : 0 < t.val) (r : Fin 128) :
    (iblk m c 4 t : IVec S128x1 32) (ix2 r 0) = (m ((c.tc : Thread nD τ).loc main_arg6) : IVec S1024x1 32) (ix2 ⟨128 * (t.val - 1) + r.val, by have := le_eight t; omega⟩ 0) := by
  blk_ext [iblk, V, idx4 t]

theorem rowLo_at (x : Vec Ideal S1x512 .f32) (h : Fin 256) : rowLo x (ix2 0 h) = x (ix2 0 ⟨h.val, by omega⟩) := by
  refine congrArg x ?_
  funext a
  match a with
  | ⟨0, _⟩ => exact Fin.ext ((ValueKit.rect_emb_unit_val _ _ _ _ _).trans rfl)
  | ⟨1, _⟩ => exact Fin.ext ((ValueKit.rect_emb_unit_val _ _ _ _ _).trans (Nat.zero_add _))
theorem rowHi_at (x : Vec Ideal S1x512 .f32) (h : Fin 256) : rowHi x (ix2 0 h) = x (ix2 0 ⟨256 + h.val, by omega⟩) := by
  refine congrArg x ?_
  funext a
  match a with
  | ⟨0, _⟩ => exact Fin.ext ((ValueKit.rect_emb_unit_val _ _ _ _ _).trans rfl)
  | ⟨1, _⟩ => exact Fin.ext ((ValueKit.rect_emb_unit_val _ _ _ _ _).trans rfl)

/-- The score block of point `t` holds the scores of its 128 rows of the batch. -/
theorem scoreAt_row (ht : t.val < 8) (r : Fin 128) : scoreRow (scoreAt m c t) r = batchScores m c ⟨128 * t.val + r.val, by omega⟩ := by
  funext n
  unfold scoreRow scoreAt
  rw [scoreBlock_at]
  unfold batchScores Picks.scores
  simp only [blk0_at m c t ht, blk1_at m c t ht, blk2_at m c t ht, blk5_at, blk6_at, blk8_at, rowLo_at, rowHi_at, blk7_at]

/-- What the identifiers' array holds at the end. -/
def idArray : IVec S1024x20 32 := fun i =>
  BitVec.ofNat 32 (Picks.inOrder (Picks.soft (batchScores m c (i 0))) (i 1)) + (m ((c.tc : Thread nD τ).loc main_arg6) : IVec S1024x1 32) (ix2 (i 0) 0)

/-- What the probabilities' array holds at the end. -/
def probArray : FVec Ideal S1024x1 .f32 := fun i =>
  Picks.total (Picks.soft (batchScores m c (i 0))) * FloatOps.sitofp .f32 ((m ((c.tc : Thread nD τ).loc main_arg5) : IVec S1024x1 32) (ix2 (i 0) 0)) * ((1 / 20 : ℝ) : EReal)

variable (hreal : ∀ r, ⊥ < Picks.top (batchScores m c r) ∧ Picks.top (batchScores m c r) < ⊤)
include hreal

/-- The identifiers a point after the first leaves, at coordinates. -/
theorem id_point (ht : 0 < t.val) (r : Fin 128) (q : Fin 20) :
    idBlock (scoreAt m c ⟨t.val - 1, lt_of_le_of_lt (Nat.sub_le _ _) t.isLt⟩) (iblk m c 4 t) (ix2 r q)
      = idArray m c (ix2 ⟨128 * (t.val - 1) + r.val, by have := le_eight t; omega⟩ q) := by
  have h8 := le_eight t
  have hs := scoreAt_row m c ⟨t.val - 1, lt_of_le_of_lt (Nat.sub_le _ _) t.isLt⟩ (by dsimp only; omega) r
  have hr := hreal ⟨128 * (t.val - 1) + r.val, by omega⟩
  rw [idBlock_at _ _ _ _ (by rw [hs]; exact hr.1) (by rw [hs]; exact hr.2), hs, blk4_at m c t ht r]
  rfl

/-- The probabilities a point after the first leaves, at coordinates. -/
theorem prob_point (ht : 0 < t.val) (r : Fin 128) :
    probBlock (scoreAt m c ⟨t.val - 1, lt_of_le_of_lt (Nat.sub_le _ _) t.isLt⟩) (iblk m c 3 t) (ix2 r 0)
      = probArray m c (ix2 ⟨128 * (t.val - 1) + r.val, by have := le_eight t; omega⟩ 0) := by
  have h8 := le_eight t
  have hs := scoreAt_row m c ⟨t.val - 1, lt_of_le_of_lt (Nat.sub_le _ _) t.isLt⟩ (by dsimp only; omega) r
  have hr := hreal ⟨128 * (t.val - 1) + r.val, by omega⟩
  rw [probBlock_at _ _ _ (by rw [hs]; exact hr.1) (by rw [hs]; exact hr.2), hs, blk3_at m c t ht r]
  rfl

/-- The same at the place of the array that the block's element is written back to. -/
theorem id_cell (ht : 0 < t.val) (y : S128x20.Idx) :
    idBlock (scoreAt m c ⟨t.val - 1, lt_of_le_of_lt (Nat.sub_le _ _) t.isLt⟩) (iblk m c 4 t) y = idArray m c ((win0_9.blk t).view.emb y) := by
  obtain ⟨r, q, rfl⟩ : ∃ r q, y = ix2 r q := ⟨y 0, y 1, (ix2_eta y).symm⟩
  rw [id_point m c t hreal ht]
  refine congrArg (idArray m c) ?_
  blk_ext [idx9 t]

/-- The same at the place of the array that the block's element is written back to. -/
theorem prob_cell (ht : 0 < t.val) (y : S128x1.Idx) :
    probBlock (scoreAt m c ⟨t.val - 1, lt_of_le_of_lt (Nat.sub_le _ _) t.isLt⟩) (iblk m c 3 t) y = probArray m c ((win0_10.blk t).view.emb y) := by
  obtain ⟨r, q, rfl⟩ : ∃ r q, y = ix2 r q := ⟨y 0, y 1, (ix2_eta y).symm⟩
  obtain rfl : q = 0 := Subsingleton.elim _ _
  rw [prob_point m c t hreal ht]
  refine congrArg (probArray m c) ?_
  blk_ext [idx10 t]

/-- The results after a run that leaves what `Out` allows. -/
theorem results {r : PUnit × MemSt nD τ sig (Elt Ideal)} (h : Pipeline.RDat.FramePost cfg0 (rdata m) (V m) r) :
    r.2.mem ((c.tc : Thread nD τ).loc main_v0_0) = idArray m c ∧ r.2.mem ((c.tc : Thread nD τ).loc main_v0_1) = probArray m c := by
  obtain ⟨after, hL, hA⟩ := h.exists_exact c
  constructor
  · refine (hA 9).trans ?_
    refine ((rdata m c).withAfter after).arrAt_eq_of_covers 9 _ (by decide +kernel) fun t hf y => ?_
    have ht := flush9 t hf
    have hX := (data m c).toRRel_leaves (Rl := Out m c) (fgt := held) rfl (hL 9 t hf) ht
    rw [Pipeline.RDat.withAfter_after, hX]
    blk_simp
    exact id_cell m c t hreal ht y
  · refine (hA 10).trans ?_
    refine ((rdata m c).withAfter after).arrAt_eq_of_covers 10 _ (by decide +kernel) fun t hf y => ?_
    have ht := flush10 t hf
    have hX := (data m c).toRRel_leaves (Rl := Out m c) (fgt := held) rfl (hL 10 t hf) ht
    rw [Pipeline.RDat.withAfter_after, hX]
    blk_simp
    exact prob_cell m c t hreal ht y

end Cert.KernelIdeal.Hand

end
-- ==== Proof.RefValue.lean ====
/- The idealized reference read at an index: its scores, their softmax, the places it picks and its two results. -/
module

public import proofs.«01_k».proof.Proof.Gen.ReferenceIdeal.Run
public import proofs.«01_k».proof.Proof.Spec
public import Idealize.ShloMosaic.Lib.Pointwise
public import Idealize.ShloMosaic.Lib.Pipeline.ValueKit
public import Idealize.ShloMosaic.Lib.IdealHost

@[expose] public section

set_option maxRecDepth 16384

noncomputable section

namespace Cert.ReferenceIdeal.Hand

open Idealize.ShloMosaic Idealize.ShloMosaic.TcCoe Cert.ReferenceIdeal Cert.ReferenceIdeal.Gen

/-! ### The parts of the reference, as functions of arrays -/

/-- The scores. -/
def score (sg : FVec Ideal S1024x256 .f32) (x : FVec Ideal S1024x200x128 .f32) (mask : FVec Ideal S1024x200 .f32) (W : FVec Ideal S256x128 .f32) (b : FVec Ideal S256 .f32) (wn : FVec Ideal S1x512 .f32) (bn : FVec Ideal S1 .f32) : FVec Ideal S1024x200 .f32 :=
  addf (Host.reduceAdd (Host.divf (broadcastInDim S1024x200x1 ![] bcast_S_S1024x200x1 (constant S_ .f32 0x3F800000#32)) (addf (broadcastInDim S1024x200x1 ![] bcast_S_S1024x200x1 (constant S_ .f32 0x3F800000#32)) (Host.exp (Host.negf (addf (Host.dotGeneral dot_S1024x200x512_S512x1_S1024x200x1_2_0_01_1_n_n none (concatenate S1024x200x512 2 [⟨S1024x200x256, (addf (Host.dotGeneral dot_S1024x200x128_S128x256_S1024x200x256_2_0_01_1_n_n none x (transpose S128x256 [1, 0] W transposes_S256x128_S128x256_1_0)) (broadcastInDim S1024x200x256 ![0, 1, 2] bcast_S1x1x256_S1024x200x256_0_1_2 (broadcastInDim S1x1x256 ![2] bcast_S256_S1x1x256_2 b)))⟩, ⟨S1024x200x256, (broadcastInDim S1024x200x256 ![0, 1, 2] bcast_S1024x1x256_S1024x200x256_0_1_2 (broadcastInDim S1024x1x256 ![0, 2] bcast_S1024x256_S1024x1x256_0_2 sg))⟩] concatenates_S1024x200x256_S1024x200x256_S1024x200x512_d2) (transpose S512x1 [1, 0] wn transposes_S1x512_S512x1_1_0)) (broadcastInDim S1024x200x1 ![0, 1, 2] bcast_S1x1x1_S1024x200x1_0_1_2 (broadcastInDim S1x1x1 ![2] bcast_S1_S1x1x1_2 bn))))))) (constant S_ .f32 0x00000000#32) reducesTo_S1024x200x1_S1024x200_d2 h_S_) mask

/-- The softmax of each row. -/
def att (S : FVec Ideal S1024x200 .f32) : FVec Ideal S1024x200 .f32 :=
  Host.divf (Host.exp (subf S (broadcastInDim S1024x200 ![0, 1] bcast_S1024x1_S1024x200_0_1 (broadcastInDim S1024x1 ![0] bcast_S1024_S1024x1_0 (maximumf (broadcastInDim S1024 ![] bcast_S_S1024 (constant S_ .f32 0xFF800000#32)) (Host.reduce FloatOps.maximumf S (constant S_ .f32 0xFF800000#32) reducesTo_S1024x200_S1024_d1 h_S_)))))) (broadcastInDim S1024x200 ![0, 1] bcast_S1024x1_S1024x200_0_1 (broadcastInDim S1024x1 ![0] bcast_S1024_S1024x1_0 (Host.reduceAdd (Host.exp (subf S (broadcastInDim S1024x200 ![0, 1] bcast_S1024x1_S1024x200_0_1 (broadcastInDim S1024x1 ![0] bcast_S1024_S1024x1_0 (maximumf (broadcastInDim S1024 ![] bcast_S_S1024 (constant S_ .f32 0xFF800000#32)) (Host.reduce FloatOps.maximumf S (constant S_ .f32 0xFF800000#32) reducesTo_S1024x200_S1024_d1 h_S_)))))) (constant S_ .f32 0x00000000#32) reducesTo_S1024x200_S1024_d1 h_S_)))

/-- The places of the twenty largest of each row, sorted. -/
def places (A : FVec Ideal S1024x200 .f32) : IVec S1024x20 32 :=
  Host.sort S1024x20 1 comparator_i32_d1 ((Host.topK S1024x20 1 (FloatOps.cmpfTotal .gt) A sliceFits_S1024x200_S1024x20).2)

/-- The places as the lookup takes them: a negative one counts from the end. -/
def lookup (P : IVec S1024x20 32) : IVec S1024x20x1 32 :=
  shapeCast S1024x20x1 (select (cmpi .slt P (broadcastInDim S1024x20 ![] bcast_S_S1024x20 (constantI S_ 32 0#32))) (addi P (broadcastInDim S1024x20 ![] bcast_S_S1024x20 (constantI S_ 32 200#32))) P) shapeCasts_S1024x20_S1024x20x1

/-- The entries at the places. -/
def taken (A : FVec Ideal S1024x200 .f32) (P : IVec S1024x20 32) : FVec Ideal S1024x20 .f32 :=
  select (Host.reduce IntOp.andi (andi (cmpi .sge (lookup P) (broadcastInDim S1024x20x1 ![] bcast_S_S1024x20x1 (constantI S_ 32 0#32))) (cmpi .sle (lookup P) (broadcastInDim S1024x20x1 ![0, 1, 2] bcast_S1x1x1_S1024x20x1_0_1_2 (broadcastInDim S1x1x1 ![2] bcast_S1_S1x1x1_2 (constantI S1 32 199#32))))) (constantI S_ 1 1#1) reducesTo_S1024x20x1_S1024x20_d2 h_S_) (Host.gather gather_S1024x200_S1024x20x1_S1024x20_n_1_0_0_1_2_11 A (lookup P)) (broadcastInDim S1024x20 ![] bcast_S_S1024x20 (constant S_ .f32 0x7FC00000#32))

/-- The first result from the places. -/
def ids (P : IVec S1024x20 32) (sub : IVec S1024x1 32) : IVec S1024x20 32 :=
  fptosi (F := Ideal) (φ := .f32) 32 (addf (sitofp .f32 P) (sitofp .f32 (broadcastInDim S1024x20 ![0, 1] bcast_S1024x1_S1024x20_0_1 sub)))

/-- The second result from the entries. -/
def mean (T : FVec Ideal S1024x20 .f32) (num : IVec S1024x1 32) : FVec Ideal S1024x1 .f32 :=
  Host.divf (broadcastInDim S1024x1 ![0] bcast_S1024_S1024x1_0 (Host.reduceAdd (mulf T (sitofp .f32 (broadcastInDim S1024x20 ![0, 1] bcast_S1024x1_S1024x20_0_1 num))) (constant S_ .f32 0x00000000#32) reducesTo_S1024x20_S1024_d1 h_S_)) (broadcastInDim S1024x1 ![] bcast_S_S1024x1 (constant S_ .f32 0x41A00000#32))

variable (m : (ℓ : Loc nD τ sig) → Buf (Elt Ideal) ℓ) (c : Dev nD)

/-- The score array of a memory. -/
def scoreOf : FVec Ideal S1024x200 .f32 :=
  score (m ((c.tc : Thread nD τ).loc main_arg1)) (m ((c.tc : Thread nD τ).loc main_arg2)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10))

theorem out0_eq : Value.res_main_v45 m c = ids (places (att (scoreOf m c))) (m ((c.tc : Thread nD τ).loc main_arg6)) := rfl
theorem out1_eq : Value.res_main_v42 m c = mean (taken (att (scoreOf m c)) (places (att (scoreOf m c)))) (m ((c.tc : Thread nD τ).loc main_arg5)) := rfl

/-! ### Each part at an index -/

theorem logistic_eq (z : EReal) : Ideal.div 1 (1 + Ideal.exp (-z)) = Ideal.logistic z := rfl

/-- The score array at an index: the last layer's sum over its two halves, its factors and its terms in another order. -/
theorem score_at (sg : FVec Ideal S1024x256 .f32) (x : FVec Ideal S1024x200x128 .f32) (mask : FVec Ideal S1024x200 .f32) (W : FVec Ideal S256x128 .f32) (b : FVec Ideal S256 .f32) (wn : FVec Ideal S1x512 .f32) (bn : FVec Ideal S1 .f32)
    (r : Fin 1024) (n : Fin 200) :
    score sg x mask W b wn bn (ix2 r n) = Picks.scores (fun n e => x (ix3 r n e)) (fun h => sg (ix2 r h)) (fun n => mask (ix2 r n)) (fun h e => W (ix2 h e)) (fun h => b (ix1 h))
      (fun h => wn (ix2 0 ⟨h.val, by omega⟩)) (fun h => wn (ix2 0 ⟨256 + h.val, by omega⟩)) (bn (ix1 0)) n := by
  unfold score Picks.scores
  pointwise []
  rw [Fin.sum_univ_one, logistic_eq]
  refine congrArg (fun z => Ideal.logistic (z + _ + bn (ix1 0)) + mask (ix2 r n)) ?_
  refine Finset.sum_congr rfl fun h _ => ?_
  rw [mul_comm]
  refine congrArg (fun z => wn (ix2 0 ⟨h.val, _⟩) * (z + b (ix1 h))) ?_
  exact Finset.sum_congr rfl fun e _ => mul_comm _ _

/-- The softmax at an index: the maximum with the smallest value changes nothing. -/
theorem att_at (S : FVec Ideal S1024x200 .f32) (r : Fin 1024) (n : Fin 200) : att S (ix2 r n) = Picks.soft (fun n => S (ix2 r n)) n := by
  unfold att
  pointwise []
  have h : Ideal.ofBits .f32 0xFF800000#32 = ⊥ := by simp [Ideal.ofBits, Ideal.ieee]
  rw [Picks.fold_top (fun n => S (ix2 r n)), h, max_eq_right bot_le]
  rfl

theorem lookup_at (P : IVec S1024x20 32) (r : Fin 1024) (q : Fin 20) :
    lookup P (ix3 r q 0) = Scalar.select (IntOp.cmpi .slt (P (ix2 r q)) 0#32) (IntOp.addi (P (ix2 r q)) 200#32) (P (ix2 r q)) := by
  unfold lookup
  pointwise []

/-- The lookup reads the row's entry at the word, held within the row. -/
theorem gather_at (A : FVec Ideal S1024x200 .f32) (idx : IVec S1024x20x1 32) (r : Fin 1024) (q : Fin 20) :
    Host.gather gather_S1024x200_S1024x20x1_S1024x20_n_1_0_0_1_2_11 A idx (ix2 r q) = A (ix2 r ⟨min (idx (ix3 r q 0)).toInt.toNat 199, by omega⟩) := by
  unfold Host.gather
  refine congrArg A ?_
  funext a
  match a with
  | ⟨0, _⟩ =>
    apply Fin.ext
    show 0 + r.val + 0 = r.val
    omega
  | ⟨1, _⟩ =>
    apply Fin.ext
    show min (idx _).toInt.toNat 199 + 0 + 0 = min (idx (ix3 r q 0)).toInt.toNat 199
    refine congrArg (fun i => min (idx i).toInt.toNat 199) ?_
    funext b
    match b with
    | ⟨0, _⟩ => rfl
    | ⟨1, _⟩ => rfl
    | ⟨2, _⟩ => rfl

/-- At a word that is a place of the row, the lookup is the row's entry at it. -/
theorem taken_at (A : FVec Ideal S1024x200 .f32) (P : IVec S1024x20 32) (r : Fin 1024) (q : Fin 20) (p : Fin 200) (hp : P (ix2 r q) = BitVec.ofNat 32 p.val) :
    taken A P (ix2 r q) = A (ix2 r p) := by
  have hl : lookup P (ix3 r q 0) = BitVec.ofNat 32 p.val := by
    rw [lookup_at, hp]
    clear hp
    revert p; decide +kernel
  unfold taken
  pointwise []
  rw [gather_at]
  have hw : Finset.fold IntOp.andi (1#1) (fun x => IntOp.andi (IntOp.cmpi CmpIPredicate.sge (lookup P (ix3 r q x)) 0#32) (IntOp.cmpi CmpIPredicate.sle (lookup P (ix3 r q x)) 199#32)) (Finset.univ : Finset (Fin 1)) = 1#1 := by
    rw [show (Finset.univ : Finset (Fin 1)) = {0} from rfl, Finset.fold_singleton, hl]
    clear hl hp
    revert p; decide +kernel
  have hv : min (BitVec.ofNat 32 p.val).toInt.toNat 199 = p.val := by clear hl hp hw; revert p; decide +kernel
  rw [hw]
  exact congrArg (fun i => A (ix2 r i)) (Fin.ext ((congrArg (fun w : BitVec 32 => min w.toInt.toNat 199) hl).trans hv))

/-- The same with the place as a number. -/
theorem taken_of (A : FVec Ideal S1024x200 .f32) (P : IVec S1024x20 32) (r : Fin 1024) (q : Fin 20) (p : ℕ) (hp : p < 200) (hP : P (ix2 r q) = BitVec.ofNat 32 p) :
    taken A P (ix2 r q) = A (ix2 r ⟨p, hp⟩) := taken_at A P r q ⟨p, hp⟩ hP

theorem word_toInt (p : ℕ) (hp : p < 200) : (BitVec.ofNat 32 p).toInt = (p : ℤ) := by
  rw [BitVec.toInt_eq_toNat_of_lt (by rw [BitVec.toNat_ofNat]; omega), BitVec.toNat_ofNat]; omega

/-- The sum of a place of the row and an offset, taken through reals and cut back to a word, is the sum of the words. -/
theorem word_sum (p : ℕ) (hp : p < 200) (s : BitVec 32) (hs : s.toInt ≤ 2147483448) :
    Ideal.fptosi 32 (FloatOps.sitofp (F := Ideal) .f32 (BitVec.ofNat 32 p) + FloatOps.sitofp (F := Ideal) .f32 s) = BitVec.ofNat 32 p + s := by
  have hp' := word_toInt p hp
  have hlo := s.le_toInt
  have e : FloatOps.sitofp (F := Ideal) .f32 (BitVec.ofNat 32 p) + FloatOps.sitofp (F := Ideal) .f32 s = ((((p : ℤ) + s.toInt : ℤ) : ℝ) : EReal) := by
    show (((BitVec.ofNat 32 p).toInt : ℝ) : EReal) + ((s.toInt : ℝ) : EReal) = _
    rw [hp', ← EReal.coe_add, Int.cast_add]
  rw [e, Ideal.fptosi, Ideal.toIntClamped_coe, Int.floor_intCast, Int.ceil_intCast, ite_self]
  rw [show max (-((2 ^ (32 - 1) : ℕ) : ℤ)) (min (((2 ^ (32 - 1) : ℕ) : ℤ) - 1) ((p : ℤ) + s.toInt)) = (p : ℤ) + s.toInt by norm_num at hlo ⊢; omega]
  rw [BitVec.ofInt_add, BitVec.ofInt_toInt, BitVec.ofInt_natCast]

theorem ids_at (P : IVec S1024x20 32) (sub : IVec S1024x1 32) (r : Fin 1024) (q : Fin 20) (p : ℕ) (hp : p < 200) (hP : P (ix2 r q) = BitVec.ofNat 32 p)
    (hs : (sub (ix2 r 0)).toInt ≤ 2147483448) : ids P sub (ix2 r q) = BitVec.ofNat 32 p + sub (ix2 r 0) := by
  rw [← word_sum p hp _ hs, ← hP]
  unfold ids
  pointwise []
  rfl

theorem mean_at (T : FVec Ideal S1024x20 .f32) (num : IVec S1024x1 32) (r : Fin 1024) :
    mean T num (ix2 r 0) = (∑ q, T (ix2 r q) * FloatOps.sitofp .f32 (num (ix2 r 0))) * ((1 / 20 : ℝ) : EReal) := by
  unfold mean
  pointwise []
  have h : Ideal.ofBits .f32 0x41A00000#32 = ((20 : ℝ) : EReal) := by
    simp [Ideal.ofBits, Ideal.ieee, -EReal.coe_mul, -EReal.coe_neg]; norm_num
  rw [h, Ideal.div_coe (by norm_num)]

/-! ### The places -/

theorem along_row {a b : ℕ} (r : Fin a) (c k : Fin b) : Shape.Idx.along (s := ⟨2, ![a, b]⟩) (ix2 r c) 1 k = ix2 r k := by
  funext x
  match x with
  | ⟨0, _⟩ => rfl
  | ⟨1, _⟩ => rfl

/-- The comparison of the places is the order of the row's entries, largest first. -/
theorem gt_iff (x y : EReal) : (FloatOps.cmpfTotal (F := Ideal) (φ := .f32) .gt x y == 1#1) = true ↔ y < x := by
  show (BitVec.ofBool (decide (x > y)) == 1#1) = true ↔ y < x
  by_cases h : y < x <;> simp [h]

theorem topK_at (A : FVec Ideal S1024x200 .f32) (r : Fin 1024) (ha : ∀ n, 0 ≤ A (ix2 r n)) (k : Fin 20) :
    (Host.topK S1024x20 1 (FloatOps.cmpfTotal (F := Ideal) (φ := .f32) .gt) A sliceFits_S1024x200_S1024x20).2 (ix2 r k) = BitVec.ofNat 32 (Picks.pickNat (fun n => A (ix2 r n)) k) := by
  unfold Host.topK Host.sort2
  pointwise []
  refine congrArg (BitVec.ofNat 32) ?_
  rw [along_row]
  refine congrArg Fin.val ?_
  refine Picks.sorted_eq_pick ha _ (fun i j => ?_) k.val (by omega)
  rw [along_row, along_row]
  exact gt_iff _ _

/-- The sorted words are the places in ascending order. -/
theorem places_at (A : FVec Ideal S1024x200 .f32) (r : Fin 1024) (ha : ∀ n, 0 ≤ A (ix2 r n)) (q : Fin 20) :
    places A (ix2 r q) = BitVec.ofNat 32 (Picks.inOrder (fun n => A (ix2 r n)) q) := by
  unfold places Host.sort
  pointwise []
  rw [along_row, topK_at A r ha]
  refine congrArg (fun R => BitVec.ofNat 32 (Picks.pickNat (fun n => A (ix2 r n)) (sortedFrom R q))) ?_
  funext i j
  rw [along_row, along_row, topK_at A r ha, topK_at A r ha]
  have hi := Picks.pickNat_lt (fun n => A (ix2 r n)) i
  have hj := Picks.pickNat_lt (fun n => A (ix2 r n)) j
  show (BitVec.ofBool (BitVec.slt _ _) == 1#1) = decide _
  simp only [BitVec.slt, word_toInt _ hi, word_toInt _ hj, Nat.cast_lt]
  by_cases h : Picks.pickNat (fun n => A (ix2 r n)) i < Picks.pickNat (fun n => A (ix2 r n)) j <;> simp [h]

/-! ### The results -/

/-- The scores of row `r` of the batch. -/
def batchScores (r : Fin 1024) : Picks.Row :=
  Picks.scores (fun n e => (m ((c.tc : Thread nD τ).loc main_arg2) : FVec Ideal S1024x200x128 .f32) (ix3 r n e))
    (fun h => (m ((c.tc : Thread nD τ).loc main_arg1) : FVec Ideal S1024x256 .f32) (ix2 r h))
    (fun n => (m ((c.tc : Thread nD τ).loc main_arg4) : FVec Ideal S1024x200 .f32) (ix2 r n))
    (fun h e => (m ((c.tc : Thread nD τ).loc main_arg7) : FVec Ideal S256x128 .f32) (ix2 h e))
    (fun h => (m ((c.tc : Thread nD τ).loc main_arg8) : FVec Ideal S256 .f32) (ix1 h))
    (fun h => (m ((c.tc : Thread nD τ).loc main_arg9) : FVec Ideal S1x512 .f32) (ix2 0 ⟨h.val, by omega⟩))
    (fun h => (m ((c.tc : Thread nD τ).loc main_arg9) : FVec Ideal S1x512 .f32) (ix2 0 ⟨256 + h.val, by omega⟩))
    ((m ((c.tc : Thread nD τ).loc main_arg10) : FVec Ideal S1 .f32) (ix1 0))

theorem att_row (r : Fin 1024) : (fun n => att (scoreOf m c) (ix2 r n)) = Picks.soft (batchScores m c r) := by
  funext n
  rw [att_at]
  refine congrArg (fun w => Picks.soft w n) ?_
  funext k
  exact score_at _ _ _ _ _ _ _ r k

variable {m c}
variable (r : Fin 1024) (hb : ⊥ < Picks.top (batchScores m c r)) (ht : Picks.top (batchScores m c r) < ⊤)
include hb ht

theorem places_row (q : Fin 20) : places (att (scoreOf m c)) (ix2 r q) = BitVec.ofNat 32 (Picks.inOrder (Picks.soft (batchScores m c r)) q) := by
  have e := att_row m c r
  rw [places_at _ r (fun n => by rw [congrFun e n]; exact Picks.soft_nonneg hb ht n), e]

/-- The identifiers at an index. -/
theorem out0_at (q : Fin 20) (hs : ((m ((c.tc : Thread nD τ).loc main_arg6) : IVec S1024x1 32) (ix2 r 0)).toInt ≤ 2147483448) :
    Value.res_main_v45 m c (ix2 r q) = BitVec.ofNat 32 (Picks.inOrder (Picks.soft (batchScores m c r)) q) + (m ((c.tc : Thread nD τ).loc main_arg6) : IVec S1024x1 32) (ix2 r 0) := by
  rw [out0_eq]
  exact ids_at _ _ r q _ (Picks.inOrder_lt _ q) (places_row r hb ht q) hs

/-- The probability at an index. -/
theorem out1_at :
    Value.res_main_v42 m c (ix2 r 0) = Picks.total (Picks.soft (batchScores m c r)) * FloatOps.sitofp (F := Ideal) .f32 ((m ((c.tc : Thread nD τ).loc main_arg5) : IVec S1024x1 32) (ix2 r 0)) * ((1 / 20 : ℝ) : EReal) := by
  rw [out1_eq, mean_at]
  refine congrArg (fun z => z * ((1 / 20 : ℝ) : EReal)) ?_
  rw [← Picks.total_inOrder, Picks.sum_mul_real _ (fun q => (Picks.soft_real hb ht _).imp fun _ h => h.1)]
  refine Finset.sum_congr rfl fun q _ => ?_
  refine congrArg (fun z => z * FloatOps.sitofp (F := Ideal) .f32 ((m ((c.tc : Thread nD τ).loc main_arg5) : IVec S1024x1 32) (ix2 r 0))) ?_
  exact (taken_of _ _ r q _ (Picks.inOrder_lt _ q) (places_row r hb ht q)).trans (congrFun (att_row m c r) _)

end Cert.ReferenceIdeal.Hand

end
-- ==== Proof.Algebraic.lean ====
/- The value claim: under the precondition the idealized kernel and the idealized reference leave the same two arrays. -/
module

public import proofs.«01_k».proof.Defs
public import proofs.«01_k».proof.Proof.Frames
public import proofs.«01_k».proof.Proof.KernelValue
public import proofs.«01_k».proof.Proof.RefValue

@[expose] public section

set_option maxRecDepth 16384

noncomputable section

namespace Cert.Proof.Parts

open Idealize.ShloMosaic Idealize.ShloMosaic.TcCoe Idealize.SL.Sem

theorem both_one (a b : BitVec 1) (h : IntOp.andi a b = 1#1) : a = 1#1 ∧ b = 1#1 := by
  revert a b; decide

theorem of_bit {p : Prop} [Decidable p] (h : BitVec.ofBool (decide p) = 1#1) : p := by
  by_contra hp
  rw [decide_eq_false hp] at h
  exact absurd h (by decide)

/-- What the precondition says of row `r`: the mask's greatest entry is real and the offset leaves room for the places. -/
theorem pre_row (a0 : FVec Ideal Cert.Pre_scores_and_ids_in_range.S1024x8x128 .f32) (a1 : FVec Ideal Cert.Pre_scores_and_ids_in_range.S1024x256 .f32)
    (a2 : FVec Ideal Cert.Pre_scores_and_ids_in_range.S1024x200x128 .f32) (a3 mask : FVec Ideal Cert.Pre_scores_and_ids_in_range.S1024x200 .f32)
    (a5 sub : IVec Cert.Pre_scores_and_ids_in_range.S1024x1 32) (a7 : FVec Ideal Cert.Pre_scores_and_ids_in_range.S256x128 .f32)
    (a8 : FVec Ideal Cert.Pre_scores_and_ids_in_range.S256 .f32) (a9 : FVec Ideal Cert.Pre_scores_and_ids_in_range.S1x512 .f32)
    (a10 : FVec Ideal Cert.Pre_scores_and_ids_in_range.S1 .f32)
    (h : (haveI := preFacts; Cert.Pre_scores_and_ids_in_range.fn (F := Ideal) a0 a1 a2 a3 mask a5 sub a7 a8 a9 a10) = fun _ => 1#1) (r : Fin 1024) :
    ⊥ < Picks.top (fun n => mask (ix2 r n)) ∧ Picks.top (fun n => mask (ix2 r n)) < ⊤ ∧ (sub (ix2 r 0)).toInt ≤ 2147483448 := by
  haveI := preFacts
  have hr := congrFun h (ix2 r 0)
  unfold Cert.Pre_scores_and_ids_in_range.fn at hr
  pointwise [] at hr
  have hbot : Ideal.ofBits .f32 0xFF800000#32 = ⊥ := by simp [Ideal.ofBits, Ideal.ieee]
  have htop : Ideal.ofBits .f32 0x7F800000#32 = ⊤ := by simp [Ideal.ofBits, Ideal.ieee]
  rw [Picks.fold_top (fun n => mask (ix2 r n)), hbot, htop] at hr
  obtain ⟨h12, h3⟩ := both_one _ _ hr
  obtain ⟨h1, h2⟩ := both_one _ _ h12
  refine ⟨of_bit h1, of_bit h2, ?_⟩
  have h3' : BitVec.sle (sub (ix2 r 0)) 2147483448#32 = true := by
    by_contra hc
    rw [Bool.not_eq_true] at hc
    rw [show IntOp.cmpi .sle (sub (ix2 r 0)) 2147483448#32 = BitVec.ofBool (BitVec.sle (sub (ix2 r 0)) 2147483448#32) from rfl, hc] at h3
    exact absurd h3 (by decide)
  rw [BitVec.sle_iff_toInt_le] at h3'
  exact h3'

theorem algebraic : Cert.algebraic_KernelIdeal_ReferenceIdeal_pre_scores_and_ids_in_range
    (hKernelIdeal := Cert.KernelIdeal.Gen.facts) (hReferenceIdeal := Cert.ReferenceIdeal.Gen.facts) (hPre_scores_and_ids_in_range := preFacts) := by
  intro m g m' g' hpre hargs
  have hrow := fun c => pre_row _ _ _ _ _ _ _ _ _ _ _ (hpre c)
  have hreal : ∀ c r, ⊥ < Picks.top (Cert.KernelIdeal.Hand.batchScores m c r) ∧ Picks.top (Cert.KernelIdeal.Hand.batchScores m c r) < ⊤ := fun c r =>
    Picks.top_scores _ _ _ _ _ _ _ _ (hrow c r).1 (hrow c r).2.1
  have hsame : ∀ c r, Cert.ReferenceIdeal.Hand.batchScores m' c r = Cert.KernelIdeal.Hand.batchScores m c r := by
    intro c r
    obtain ⟨h0, h1, h2, h3, h4, h5, h6, h7, h8, h9, h10⟩ := hargs c
    unfold Cert.ReferenceIdeal.Hand.batchScores Cert.KernelIdeal.Hand.batchScores
    rw [h1, h2, h4, h7, h8, h9, h10]
  refine ⟨fun c => Cert.KernelIdeal.Hand.idArray m c, fun c => Cert.KernelIdeal.Hand.probArray m c, ?_, ?_⟩
  · refine (θ_run Cert.KernelIdeal.defs _ _).mono (fun r h c => ?_) (Cert.KernelIdeal.Hand.run_main (F := Ideal) m g)
    have hv := Cert.KernelIdeal.Hand.results m c (hreal c) h.1
    exact ⟨hv.1, hv.2, Cert.KernelIdeal.Hand.args_kept m h.1 c⟩
  · refine (θ_run Cert.ReferenceIdeal.defs _ _).mono (fun r h c => ?_) (Cert.ReferenceIdeal.Value.run (F := Ideal) m' g')
    obtain ⟨h0, h1, h2, h3, h4, h5, h6, h7, h8, h9, h10⟩ := hargs c
    refine ⟨(h c).1.trans ?_, (h c).2.1.trans ?_, (h c).2.2⟩
    · funext i
      obtain ⟨b, q, rfl⟩ : ∃ b q, i = ix2 b q := ⟨i 0, i 1, (ix2_eta i).symm⟩
      refine (Cert.ReferenceIdeal.Hand.out0_at b ?_ ?_ q ?_).trans ?_
      · rw [hsame]; exact (hreal c b).1
      · rw [hsame]; exact (hreal c b).2
      · rw [h6]; exact (hrow c b).2.2
      · rw [hsame, h6]; rfl
    · funext i
      obtain ⟨b, q, rfl⟩ : ∃ b q, i = ix2 b q := ⟨i 0, i 1, (ix2_eta i).symm⟩
      obtain rfl : q = 0 := Subsingleton.elim _ _
      refine (Cert.ReferenceIdeal.Hand.out1_at b ?_ ?_).trans ?_
      · rw [hsame]; exact (hreal c b).1
      · rw [hsame]; exact (hreal c b).2
      · rw [hsame, h5]; rfl

end Cert.Proof.Parts

end
-- ==== Proof.lean ====
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Parts.preFacts,
    Parts.frameP, Parts.framePI, fun m g _ => Parts.framePI m g trivial, Parts.frameRI, fun m g _ => Parts.frameRI m g trivial,
    Parts.preserves, Parts.algebraic⟩

end Cert.Proof

end
